-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 2048]⟩ ⟨3, ![4, 2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S2x256x2048 : Shape := ⟨3, ![2, 256, 2048]⟩
abbrev S256x2048 : Shape := ⟨2, ![256, 2048]⟩
abbrev S512x2048 : Shape := ⟨2, ![512, 2048]⟩
abbrev S2 : Shape := ⟨1, ![2]⟩
abbrev S_ : Shape := ⟨0, ![]⟩
abbrev S1x256x2048 : Shape := ⟨3, ![1, 256, 2048]⟩
abbrev S1 : Shape := ⟨1, ![1]⟩
abbrev S256 : Shape := ⟨1, ![256]⟩
abbrev S256x1 : Shape := ⟨2, ![256, 1]⟩
abbrev S1x2048 : Shape := ⟨2, ![1, 2048]⟩

abbrev nBuf : Space → Nat
  | .hbm => 4
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .local _ .vmem, ⟨0, _⟩ => ⟨S2048, .f32⟩
  | .local _ .vmem, ⟨1, _⟩ => ⟨S2x256x2048, .f32⟩
  | .local _ .vmem, ⟨2, _⟩ => ⟨S2x256x2048, .f32⟩
  | .local _ .vmem, ⟨3, _⟩ => ⟨S256x2048, .f32⟩
  | .local _ .vmem, ⟨4, _⟩ => ⟨S256x2048, .f32⟩
  | .local _ .vmem, ⟨5, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v31 : BitVec 32 := Scalar.muli v2 c512_i32
  let c0_i32_20 : BitVec 32 := 0#32
  ![v31.toNat, 0]
def k0_off2 (d0 : Dev nD) : Fin 3 → Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v33 : BitVec 32 := Scalar.addi v2 c3_i32
  let c4_i32_21 : BitVec 32 := 4#32
  let c0_i32_22 : BitVec 32 := 0#32
  let v34 : BitVec 1 := Scalar.cmpi .eq c4_i32_21 c0_i32_22
  let c1_i32_23 : BitVec 32 := 1#32
  let v35 : BitVec 32 := Scalar.select v34 c1_i32_23 c4_i32_21
  let v36 : BitVec 32 := Scalar.remsi v33 v35
  let c0_i32_25 : BitVec 32 := 0#32
  let v38 : BitVec 1 := Scalar.cmpi .slt v36 c0_i32_25
  let c0_i32_26 : BitVec 32 := 0#32
  let v39 : BitVec 1 := Scalar.cmpi .slt v35 c0_i32_26
  let v40 : BitVec 1 := Scalar.xori v38 v39
  let c0_i32_24 : BitVec 32 := 0#32
  let v37 : BitVec 1 := Scalar.cmpi .ne v36 c0_i32_24
  let v41 : BitVec 1 := Scalar.andi v40 v37
  let v42 : BitVec 32 := Scalar.addi v36 v35
  let v43 : BitVec 32 := Scalar.select v41 v42 v36
  let c512_i32_34 : BitVec 32 := 512#32
  let v55 : BitVec 32 := Scalar.muli v43 c512_i32_34
  let c0_i32_40 : BitVec 32 := 0#32
  ![0, v55.toNat, 0]
def k0_off3 (d0 : Dev nD) : Fin 3 → Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v44 : BitVec 32 := Scalar.addi v2 c1_i32_27
  let c4_i32_28 : BitVec 32 := 4#32
  let c0_i32_29 : BitVec 32 := 0#32
  let v45 : BitVec 1 := Scalar.cmpi .eq c4_i32_28 c0_i32_29
  let c1_i32_30 : BitVec 32 := 1#32
  let v46 : BitVec 32 := Scalar.select v45 c1_i32_30 c4_i32_28
  let v47 : BitVec 32 := Scalar.remsi v44 v46
  let c0_i32_32 : BitVec 32 := 0#32
  let v49 : BitVec 1 := Scalar.cmpi .slt v47 c0_i32_32
  let c0_i32_33 : BitVec 32 := 0#32
  let v50 : BitVec 1 := Scalar.cmpi .slt v46 c0_i32_33
  let v51 : BitVec 1 := Scalar.xori v49 v50
  let c0_i32_31 : BitVec 32 := 0#32
  let v48 : BitVec 1 := Scalar.cmpi .ne v47 c0_i32_31
  let v52 : BitVec 1 := Scalar.andi v51 v48
  let v53 : BitVec 32 := Scalar.addi v47 v46
  let v54 : BitVec 32 := Scalar.select v52 v53 v47
  let c512_i32_35 : BitVec 32 := 512#32
  let v56 : BitVec 32 := Scalar.muli v54 c512_i32_35
  let c256_i32 : BitVec 32 := 256#32
  let v57 : BitVec 32 := Scalar.addi v56 c256_i32
  let c0_i32_45 : BitVec 32 := 0#32
  ![0, v57.toNat, 0]
def k0_dev3 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_60 : BitVec 32 := 1#32
  let v74 : BitVec 32 := Scalar.muli v25 c1_i32_60
  let v75 : BitVec 32 := Scalar.addi c0_i32_61 v74
  v75.toNat
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_70 : BitVec 32 := 1#32
  let v84 : BitVec 32 := Scalar.muli v14 c1_i32_70
  let v85 : BitVec 32 := Scalar.addi c0_i32_71 v84
  v85.toNat
def k0_off4 (d0 : Dev nD) (c0_i32_77 : BitVec 32) : Fin 3 → Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v94 : BitVec 32 := Scalar.addi v2 c2_i32_76
  let v95 : BitVec 32 := Scalar.subi v94 c0_i32_77
  let c4_i32_78 : BitVec 32 := 4#32
  let c0_i32_79 : BitVec 32 := 0#32
  let v96 : BitVec 1 := Scalar.cmpi .eq c4_i32_78 c0_i32_79
  let c1_i32_80 : BitVec 32 := 1#32
  let v97 : BitVec 32 := Scalar.select v96 c1_i32_80 c4_i32_78
  let v98 : BitVec 32 := Scalar.remsi v95 v97
  let c0_i32_82 : BitVec 32 := 0#32
  let v100 : BitVec 1 := Scalar.cmpi .slt v98 c0_i32_82
  let c0_i32_83 : BitVec 32 := 0#32
  let v101 : BitVec 1 := Scalar.cmpi .slt v97 c0_i32_83
  let v102 : BitVec 1 := Scalar.xori v100 v101
  let c0_i32_81 : BitVec 32 := 0#32
  let v99 : BitVec 1 := Scalar.cmpi .ne v98 c0_i32_81
  let v103 : BitVec 1 := Scalar.andi v102 v99
  let v104 : BitVec 32 := Scalar.addi v98 v97
  let v105 : BitVec 32 := Scalar.select v103 v104 v98
  let c512_i32_92 : BitVec 32 := 512#32
  let v118 : BitVec 32 := Scalar.muli v105 c512_i32_92
  let c0_i32_96 : BitVec 32 := 0#32
  ![0, v118.toNat, 0]
def k0_off5 (d0 : Dev nD) (c0_i32_85 : BitVec 32) : Fin 3 → Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_84 : BitVec 32 := 2#32
  let v106 : BitVec 32 := Scalar.addi v2 c2_i32_84
  let v107 : BitVec 32 := Scalar.addi v106 c0_i32_85
  let c4_i32_86 : BitVec 32 := 4#32
  let c0_i32_87 : BitVec 32 := 0#32
  let v108 : BitVec 1 := Scalar.cmpi .eq c4_i32_86 c0_i32_87
  let c1_i32_88 : BitVec 32 := 1#32
  let v109 : BitVec 32 := Scalar.select v108 c1_i32_88 c4_i32_86
  let v110 : BitVec 32 := Scalar.remsi v107 v109
  let c0_i32_90 : BitVec 32 := 0#32
  let v112 : BitVec 1 := Scalar.cmpi .slt v110 c0_i32_90
  let c0_i32_91 : BitVec 32 := 0#32
  let v113 : BitVec 1 := Scalar.cmpi .slt v109 c0_i32_91
  let v114 : BitVec 1 := Scalar.xori v112 v113
  let c0_i32_89 : BitVec 32 := 0#32
  let v111 : BitVec 1 := Scalar.cmpi .ne v110 c0_i32_89
  let v115 : BitVec 1 := Scalar.andi v114 v111
  let v116 : BitVec 32 := Scalar.addi v110 v109
  let v117 : BitVec 32 := Scalar.select v115 v116 v110
  let c512_i32_93 : BitVec 32 := 512#32
  let v119 : BitVec 32 := Scalar.muli v117 c512_i32_93
  let c256_i32_94 : BitVec 32 := 256#32
  let v120 : BitVec 32 := Scalar.addi v119 c256_i32_94
  let c0_i32_98 : BitVec 32 := 0#32
  ![0, v120.toNat, 0]
def k0_dev5 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_156 : BitVec 32 := 1#32
  let v171 : BitVec 32 := Scalar.muli v14 c1_i32_156
  let v172 : BitVec 32 := Scalar.addi c0_i32_157 v171
  v172.toNat
def k0_dev6 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_159 : BitVec 32 := 1#32
  let v173 : BitVec 32 := Scalar.muli v25 c1_i32_159
  let v174 : BitVec 32 := Scalar.addi c0_i32_160 v173
  v174.toNat
def k0_dev7 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_167 : BitVec 32 := 1#32
  let v175 : BitVec 32 := Scalar.muli v25 c1_i32_167
  let v176 : BitVec 32 := Scalar.addi c0_i32_168 v175
  v176.toNat
def k0_dev8 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_177 : BitVec 32 := 1#32
  let v185 : BitVec 32 := Scalar.muli v14 c1_i32_177
  let v186 : BitVec 32 := Scalar.addi c0_i32_178 v185
  v186.toNat
def k0_dev9 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_265 : BitVec 32 := 1#32
  let v272 : BitVec 32 := Scalar.muli v14 c1_i32_265
  let v273 : BitVec 32 := Scalar.addi c0_i32_266 v272
  v273.toNat
def k0_dev10 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_268 : BitVec 32 := 1#32
  let v274 : BitVec 32 := Scalar.muli v25 c1_i32_268
  let v275 : BitVec 32 := Scalar.addi c0_i32_269 v274
  v275.toNat
def k0_dev11 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_276 : BitVec 32 := 1#32
  let v276 : BitVec 32 := Scalar.muli v25 c1_i32_276
  let v277 : BitVec 32 := Scalar.addi c0_i32_277 v276
  v277.toNat
def k0_dev12 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_286 : BitVec 32 := 1#32
  let v286 : BitVec 32 := Scalar.muli v14 c1_i32_286
  let v287 : BitVec 32 := Scalar.addi c0_i32_287 v286
  v287.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_396 : BitVec 32 := 512#32
  let v418 : BitVec 32 := Scalar.muli v2 c512_i32_396
  let c0_i32_400 : BitVec 32 := 0#32
  ![v418.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_397 : BitVec 32 := 512#32
  let v419 : BitVec 32 := Scalar.muli v2 c512_i32_397
  let c256_i32_398 : BitVec 32 := 256#32
  let v420 : BitVec 32 := Scalar.addi v419 c256_i32_398
  let c0_i32_404 : BitVec 32 := 0#32
  ![v420.toNat, 0]
def k0_dev13 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_416 : BitVec 32 := 1#32
  let v433 : BitVec 32 := Scalar.muli v14 c1_i32_416
  let v434 : BitVec 32 := Scalar.addi c0_i32_417 v433
  v434.toNat
def k0_dev14 (d0 : Dev nD) : Nat :=
  let c0_i32_420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_419 : BitVec 32 := 1#32
  let v435 : BitVec 32 := Scalar.muli v25 c1_i32_419
  let v436 : BitVec 32 := Scalar.addi c0_i32_420 v435
  v436.toNat
def k0_dev15 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_427 : BitVec 32 := 1#32
  let v437 : BitVec 32 := Scalar.muli v25 c1_i32_427
  let v438 : BitVec 32 := Scalar.addi c0_i32_428 v437
  v438.toNat
def k0_dev16 (d0 : Dev nD) : Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_437 : BitVec 32 := 1#32
  let v447 : BitVec 32 := Scalar.muli v14 c1_i32_437
  let v448 : BitVec 32 := Scalar.addi c0_i32_438 v447
  v448.toNat
def k0_off8 (d0 : Dev nD) (c0_i32_482 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_481 : BitVec 32 := 3#32
  let v485 : BitVec 32 := Scalar.addi v2 c3_i32_481
  let v486 : BitVec 32 := Scalar.subi v485 c0_i32_482
  let c4_i32_483 : BitVec 32 := 4#32
  let c0_i32_484 : BitVec 32 := 0#32
  let v487 : BitVec 1 := Scalar.cmpi .eq c4_i32_483 c0_i32_484
  let c1_i32_485 : BitVec 32 := 1#32
  let v488 : BitVec 32 := Scalar.select v487 c1_i32_485 c4_i32_483
  let v489 : BitVec 32 := Scalar.remsi v486 v488
  let c0_i32_487 : BitVec 32 := 0#32
  let v491 : BitVec 1 := Scalar.cmpi .slt v489 c0_i32_487
  let c0_i32_488 : BitVec 32 := 0#32
  let v492 : BitVec 1 := Scalar.cmpi .slt v488 c0_i32_488
  let v493 : BitVec 1 := Scalar.xori v491 v492
  let c0_i32_486 : BitVec 32 := 0#32
  let v490 : BitVec 1 := Scalar.cmpi .ne v489 c0_i32_486
  let v494 : BitVec 1 := Scalar.andi v493 v490
  let v495 : BitVec 32 := Scalar.addi v489 v488
  let v496 : BitVec 32 := Scalar.select v494 v495 v489
  let c512_i32_497 : BitVec 32 := 512#32
  let v509 : BitVec 32 := Scalar.muli v496 c512_i32_497
  let c0_i32_501 : BitVec 32 := 0#32
  ![v509.toNat, 0]
def k0_off9 (d0 : Dev nD) (c0_i32_490 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_489 : BitVec 32 := 1#32
  let v497 : BitVec 32 := Scalar.addi v2 c1_i32_489
  let v498 : BitVec 32 := Scalar.addi v497 c0_i32_490
  let c4_i32_491 : BitVec 32 := 4#32
  let c0_i32_492 : BitVec 32 := 0#32
  let v499 : BitVec 1 := Scalar.cmpi .eq c4_i32_491 c0_i32_492
  let c1_i32_493 : BitVec 32 := 1#32
  let v500 : BitVec 32 := Scalar.select v499 c1_i32_493 c4_i32_491
  let v501 : BitVec 32 := Scalar.remsi v498 v500
  let c0_i32_495 : BitVec 32 := 0#32
  let v503 : BitVec 1 := Scalar.cmpi .slt v501 c0_i32_495
  let c0_i32_496 : BitVec 32 := 0#32
  let v504 : BitVec 1 := Scalar.cmpi .slt v500 c0_i32_496
  let v505 : BitVec 1 := Scalar.xori v503 v504
  let c0_i32_494 : BitVec 32 := 0#32
  let v502 : BitVec 1 := Scalar.cmpi .ne v501 c0_i32_494
  let v506 : BitVec 1 := Scalar.andi v505 v502
  let v507 : BitVec 32 := Scalar.addi v501 v500
  let v508 : BitVec 32 := Scalar.select v506 v507 v501
  let c512_i32_498 : BitVec 32 := 512#32
  let v510 : BitVec 32 := Scalar.muli v508 c512_i32_498
  let c256_i32_499 : BitVec 32 := 256#32
  let v511 : BitVec 32 := Scalar.addi v510 c256_i32_499
  let c0_i32_505 : BitVec 32 := 0#32
  ![v511.toNat, 0]
def k0_dev17 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_517 : BitVec 32 := 1#32
  let v524 : BitVec 32 := Scalar.muli v14 c1_i32_517
  let v525 : BitVec 32 := Scalar.addi c0_i32_518 v524
  v525.toNat
def k0_dev18 (d0 : Dev nD) : Nat :=
  let c0_i32_521 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_520 : BitVec 32 := 1#32
  let v526 : BitVec 32 := Scalar.muli v25 c1_i32_520
  let v527 : BitVec 32 := Scalar.addi c0_i32_521 v526
  v527.toNat
def k0_dev19 (d0 : Dev nD) : Nat :=
  let c0_i32_529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_528 : BitVec 32 := 1#32
  let v528 : BitVec 32 := Scalar.muli v25 c1_i32_528
  let v529 : BitVec 32 := Scalar.addi c0_i32_529 v528
  v529.toNat
def k0_dev20 (d0 : Dev nD) : Nat :=
  let c0_i32_539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_538 : BitVec 32 := 1#32
  let v538 : BitVec 32 := Scalar.muli v14 c1_i32_538
  let v539 : BitVec 32 := Scalar.addi c0_i32_539 v538
  v539.toNat
def k0_dev21 (d0 : Dev nD) : Nat :=
  let c0_i32_619 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_618 : BitVec 32 := 1#32
  let v615 : BitVec 32 := Scalar.muli v14 c1_i32_618
  let v616 : BitVec 32 := Scalar.addi c0_i32_619 v615
  v616.toNat
def k0_dev22 (d0 : Dev nD) : Nat :=
  let c0_i32_622 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_621 : BitVec 32 := 1#32
  let v617 : BitVec 32 := Scalar.muli v25 c1_i32_621
  let v618 : BitVec 32 := Scalar.addi c0_i32_622 v617
  v618.toNat
def k0_dev23 (d0 : Dev nD) : Nat :=
  let c0_i32_630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_629 : BitVec 32 := 1#32
  let v619 : BitVec 32 := Scalar.muli v25 c1_i32_629
  let v620 : BitVec 32 := Scalar.addi c0_i32_630 v619
  v620.toNat
def k0_dev24 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_639 : BitVec 32 := 1#32
  let v629 : BitVec 32 := Scalar.muli v14 c1_i32_639
  let v630 : BitVec 32 := Scalar.addi c0_i32_640 v629
  v630.toNat
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Common.lean ====
/-
# The ring: devices, memory pieces, contents

Four devices stand in a ring. Direction `true` moves the TOP halves of the row chunks to the next device
(`go true c = c + 1`), direction `false` the BOTTOM halves to the previous one (`go false c = c - 1`). Each direction has
a buffer of two slots, `slot d false` and `slot d true`.

There are six hops `k = 0 … 5`. At hop `k` every device sends its slot `ss k` of each direction into its neighbour's slot
`rs k = !ss k`; hops 0, 2, 3, 5 send slot 0, hops 1, 4 send slot 1. Hops 0–2 reduce, hops 3–5 gather.

Who waits, who pays, how much, in what order, and what each payment hands over (`c` any device):

* the barrier semaphore of `c`, round `k` (hop `k`): two payments of 1, one from each neighbour; `c` waits for 2. The neighbour
  `go d c` hands its own landing slot `slot d (rs k)` (any contents) and the fact that it has reached the round of its
  receive semaphore that `c` is about to pay.
* the send semaphore of direction `d`, slot `ss k`, of `c`: paid by `c`'s own transfer of hop `k`, one slot's credit; it hands the sent
  slot back, contents unchanged (`src d k c`).
* the receive semaphore of direction `d`, slot `rs k`, of `c`: paid by the transfer of `fr d c` at hop `k`; it hands `c` its landing
  slot, now holding what `fr d c` sent (`src d k (fr d c)`), and the fact that `fr d c` is past its barrier of hop `k`.
* the semaphores of the copies inside one device belong to that device alone.

This module: the devices, the pieces of memory, what they hold at each hop.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Batch
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## The ring -/

set_option backward.proofsInPublic true in
/-- The device `n` places further on. -/
def sh (n : ℕ) (c : Dev nD) : Dev nD := ⟨(c.val + n) % 4, Nat.mod_lt _ (by decide)⟩

/-- Where direction `d` moves: forwards for `true`, backwards for `false`. -/
def go (d : Bool) (c : Dev nD) : Dev nD := sh (if d then 1 else 3) c
/-- Where direction `d` comes from. -/
def fr (d : Bool) (c : Dev nD) : Dev nD := sh (if d then 3 else 1) c

theorem go_fr (d : Bool) (c : Dev nD) : go d (fr d c) = c := by revert d c; decide
theorem fr_go (d : Bool) (c : Dev nD) : fr d (go d c) = c := by revert d c; decide
theorem go_inj (d : Bool) {a b : Dev nD} (h : go d a = go d b) : a = b := by rw [← fr_go d a, h, fr_go]
theorem fr_inj (d : Bool) {a b : Dev nD} (h : fr d a = fr d b) : a = b := by rw [← go_fr d a, h, go_fr]
theorem go_not (d : Bool) (c : Dev nD) : go (!d) c = fr d c := by revert d c; decide

/-- Moving along direction `d`, as a permutation of the devices. -/
def goE (d : Bool) : Dev nD ≃ Dev nD := ⟨go d, fr d, fr_go d, go_fr d⟩
/-- Moving against direction `d`, as a permutation of the devices. -/
def frE (d : Bool) : Dev nD ≃ Dev nD := ⟨fr d, go d, go_fr d, fr_go d⟩

theorem dev1_eq (c : Dev nD) : (⟨k0_dev1 c, k0_dev1_lt c⟩ : Dev nD) = fr true c := by revert c; decide +kernel
theorem dev2_eq (c : Dev nD) : (⟨k0_dev2 c, k0_dev2_lt c⟩ : Dev nD) = fr false c := by revert c; decide +kernel
theorem dev3_eq (c : Dev nD) : (⟨k0_dev3 c, k0_dev3_lt c⟩ : Dev nD) = go true c := by revert c; decide +kernel
theorem dev4_eq (c : Dev nD) : (⟨k0_dev4 c, k0_dev4_lt c⟩ : Dev nD) = go false c := by revert c; decide +kernel
theorem dev5_eq (c : Dev nD) : (⟨k0_dev5 c, k0_dev5_lt c⟩ : Dev nD) = fr true c := by revert c; decide +kernel
theorem dev6_eq (c : Dev nD) : (⟨k0_dev6 c, k0_dev6_lt c⟩ : Dev nD) = fr false c := by revert c; decide +kernel
theorem dev7_eq (c : Dev nD) : (⟨k0_dev7 c, k0_dev7_lt c⟩ : Dev nD) = go true c := by revert c; decide +kernel
theorem dev8_eq (c : Dev nD) : (⟨k0_dev8 c, k0_dev8_lt c⟩ : Dev nD) = go false c := by revert c; decide +kernel
theorem dev9_eq (c : Dev nD) : (⟨k0_dev9 c, k0_dev9_lt c⟩ : Dev nD) = fr true c := by revert c; decide +kernel
theorem dev10_eq (c : Dev nD) : (⟨k0_dev10 c, k0_dev10_lt c⟩ : Dev nD) = fr false c := by revert c; decide +kernel
theorem dev11_eq (c : Dev nD) : (⟨k0_dev11 c, k0_dev11_lt c⟩ : Dev nD) = go true c := by revert c; decide +kernel
theorem dev12_eq (c : Dev nD) : (⟨k0_dev12 c, k0_dev12_lt c⟩ : Dev nD) = go false c := by revert c; decide +kernel
theorem dev13_eq (c : Dev nD) : (⟨k0_dev13 c, k0_dev13_lt c⟩ : Dev nD) = fr true c := by revert c; decide +kernel
theorem dev14_eq (c : Dev nD) : (⟨k0_dev14 c, k0_dev14_lt c⟩ : Dev nD) = fr false c := by revert c; decide +kernel
theorem dev15_eq (c : Dev nD) : (⟨k0_dev15 c, k0_dev15_lt c⟩ : Dev nD) = go true c := by revert c; decide +kernel
theorem dev16_eq (c : Dev nD) : (⟨k0_dev16 c, k0_dev16_lt c⟩ : Dev nD) = go false c := by revert c; decide +kernel
theorem dev17_eq (c : Dev nD) : (⟨k0_dev17 c, k0_dev17_lt c⟩ : Dev nD) = fr true c := by revert c; decide +kernel
theorem dev18_eq (c : Dev nD) : (⟨k0_dev18 c, k0_dev18_lt c⟩ : Dev nD) = fr false c := by revert c; decide +kernel
theorem dev19_eq (c : Dev nD) : (⟨k0_dev19 c, k0_dev19_lt c⟩ : Dev nD) = go true c := by revert c; decide +kernel
theorem dev20_eq (c : Dev nD) : (⟨k0_dev20 c, k0_dev20_lt c⟩ : Dev nD) = go false c := by revert c; decide +kernel
theorem dev21_eq (c : Dev nD) : (⟨k0_dev21 c, k0_dev21_lt c⟩ : Dev nD) = fr true c := by revert c; decide +kernel
theorem dev22_eq (c : Dev nD) : (⟨k0_dev22 c, k0_dev22_lt c⟩ : Dev nD) = fr false c := by revert c; decide +kernel
theorem dev23_eq (c : Dev nD) : (⟨k0_dev23 c, k0_dev23_lt c⟩ : Dev nD) = go true c := by revert c; decide +kernel
theorem dev24_eq (c : Dev nD) : (⟨k0_dev24 c, k0_dev24_lt c⟩ : Dev nD) = go false c := by revert c; decide +kernel

/-! ## The hops -/

/-- The slot hop `k` sends (`true` is slot 1). -/
def ss (k : ℕ) : Bool := k == 1 || k == 4
/-- The slot hop `k` lands in. -/
def rs (k : ℕ) : Bool := !ss k
/-- The round of hop `k` on its semaphores: how many earlier hops sent the same slot. -/
def rd : ℕ → ℕ | 0 => 0 | 1 => 0 | 2 => 1 | 3 => 2 | 4 => 1 | 5 => 3 | _ => 0
/-- How many hops send slot `s`. -/
def rounds (s : Bool) : ℕ := if s then 2 else 4
/-- The hop that is round `r` of sending slot `s`. -/
def hop : Bool → ℕ → ℕ
  | false, 0 => 0 | false, 1 => 2 | false, 2 => 3 | false, _ => 5
  | true, 0 => 1 | true, _ => 4

theorem hop_rd : ∀ k, k < 6 → hop (ss k) (rd k) = k := by decide
theorem rd_lt : ∀ k, k < 6 → rd k < rounds (ss k) := by decide

/-! ## The pieces of memory -/

/-- The two-slot buffer of direction `d`. -/
def buf : Bool → Memref sig .tc .vmem S2x256x2048 .f32
  | true => Memref.whole cc0_scratch0
  | false => Memref.whole cc0_scratch1

abbrev soff (s : Bool) : Fin 3 → Nat := ![if s then 1 else 0, 0, 0]
theorem soff_inb (s : Bool) : ∀ a, soff s a + S1x256x2048.size a ≤ S2x256x2048.size a := by revert s; decide
abbrev srect (s : Bool) : Rect S2x256x2048 := Rect.unit (s := S2x256x2048) (soff s) S1x256x2048.size (soff_inb s)

/-- A slot as a slice of its buffer, still of three axes. -/
abbrev slot3 (d s : Bool) : Memref sig .tc .vmem S1x256x2048 .f32 := (buf d).slice (srect s) (fun _ => rfl)
/-- Slot `s` of direction `d`. -/
abbrev slot (d s : Bool) : Memref sig .tc .vmem S256x2048 .f32 := (slot3 d s).squeeze S256x2048 squeezes_S1x256x2048_S256x2048

/-- The buffer that receives this device's own rows for direction `d`. -/
def pbuf : Bool → Memref sig .tc .vmem S256x2048 .f32
  | true => Memref.whole cc0_scratch2
  | false => Memref.whole cc0_scratch3

/-- The first row of the half `d` of chunk `j`. -/
abbrev row (d : Bool) (j : Dev nD) : ℕ := 512 * j.val + if d then 0 else 256

abbrev ioff (d : Bool) (j : Dev nD) : Fin 3 → Nat := ![0, row d j, 0]
theorem ioff_inb (d : Bool) (j : Dev nD) : ∀ a, ioff d j a + S1x256x2048.size a ≤ S1x2048x2048.size a := by revert d j; decide
abbrev irect (d : Bool) (j : Dev nD) : Rect S1x2048x2048 := Rect.unit (s := S1x2048x2048) (ioff d j) S1x256x2048.size (ioff_inb d j)
/-- The half `d` of chunk `j` of this device's `partial`, still of three axes. -/
abbrev inp3 (d : Bool) (j : Dev nD) : Memref sig .tc .hbm S1x256x2048 .f32 := (Memref.whole main_arg0).slice (irect d j) (fun _ => rfl)
/-- The half `d` of chunk `j` of this device's `partial`. -/
abbrev inp (d : Bool) (j : Dev nD) : Memref sig .tc .hbm S256x2048 .f32 := (inp3 d j).squeeze S256x2048 squeezes_S1x256x2048_S256x2048

abbrev ooff (d : Bool) (j : Dev nD) : Fin 2 → Nat := ![row d j, 0]
theorem ooff_inb (d : Bool) (j : Dev nD) : ∀ a, ooff d j a + S256x2048.size a ≤ S2048x2048.size a := by revert d j; decide
abbrev orect (d : Bool) (j : Dev nD) : Rect S2048x2048 := Rect.unit (s := S2048x2048) (ooff d j) S256x2048.size (ooff_inb d j)
/-- The half `d` of chunk `j` of the result. -/
abbrev out (d : Bool) (j : Dev nD) : Memref sig .tc .hbm S256x2048 .f32 := (Memref.whole main_v1).slice (orect d j) (fun _ => rfl)

abbrev roff (c : Dev nD) : Fin 2 → Nat := ![512 * c.val, 0]
theorem roff_inb (c : Dev nD) : ∀ a, roff c a + S512x2048.size a ≤ S2048x2048.size a := by revert c; decide
abbrev rrect (c : Dev nD) : Rect S2048x2048 := Rect.unit (s := S2048x2048) (roff c) S512x2048.size (roff_inb c)
/-- Chunk `c` of `resid`. -/
abbrev res (c : Dev nD) : Memref sig .tc .hbm S512x2048 .f32 := (Memref.whole main_arg1).slice (rrect c) (fun _ => rfl)
/-- The buffer that receives it. -/
abbrev rbuf : Memref sig .tc .vmem S512x2048 .f32 := Memref.whole cc0_scratch4

abbrev hoff (d : Bool) : Fin 2 → Nat := ![if d then 0 else 256, 0]
theorem hoff_inb (d : Bool) : ∀ a, hoff d a + S256x2048.size a ≤ S512x2048.size a := by revert d; decide
abbrev hrect (d : Bool) : Rect S512x2048 := Rect.unit (s := S512x2048) (hoff d) S256x2048.size (hoff_inb d)

theorem slot_of (d s : Bool) {off : Fin 3 → Nat} (h : ∀ a, off a + S1x256x2048.size a ≤ S2x256x2048.size a) (ho : off = soff s) :
    (((buf d).slice (Rect.unit (s := S2x256x2048) off S1x256x2048.size h) (fun _ => rfl) : Memref sig .tc .vmem S1x256x2048 .f32).squeeze S256x2048
      squeezes_S1x256x2048_S256x2048 : Memref sig .tc .vmem S256x2048 .f32) = slot d s := by subst ho; rfl
theorem inp_of (d : Bool) (j : Dev nD) {off : Fin 3 → Nat} (h : ∀ a, off a + S1x256x2048.size a ≤ S1x2048x2048.size a) (ho : off = ioff d j) :
    (((Memref.whole main_arg0).slice (Rect.unit (s := S1x2048x2048) off S1x256x2048.size h) (fun _ => rfl) : Memref sig .tc .hbm S1x256x2048 .f32).squeeze S256x2048
      squeezes_S1x256x2048_S256x2048 : Memref sig .tc .hbm S256x2048 .f32) = inp d j := by subst ho; rfl
theorem out_of (d : Bool) (j : Dev nD) {off : Fin 2 → Nat} (h : ∀ a, off a + S256x2048.size a ≤ S2048x2048.size a) (ho : off = ooff d j) :
    ((Memref.whole main_v1).slice (Rect.unit (s := S2048x2048) off S256x2048.size h) (fun _ => rfl) : Memref sig .tc .hbm S256x2048 .f32) = out d j := by
  subst ho; rfl
theorem res_of (c : Dev nD) {off : Fin 2 → Nat} (h : ∀ a, off a + S512x2048.size a ≤ S2048x2048.size a) (ho : off = roff c) :
    ((Memref.whole main_arg1).slice (Rect.unit (s := S2048x2048) off S512x2048.size h) (fun _ => rfl) : Memref sig .tc .hbm S512x2048 .f32) = res c := by
  subst ho; rfl

theorem off1_eq (c : Dev nD) : k0_off1 c = roff c := k0_off1_eq c
theorem off2_eq (c : Dev nD) : k0_off2 c = ioff true (sh 3 c) := by revert c; decide +kernel
theorem off3_eq (c : Dev nD) : k0_off3 c = ioff false (sh 1 c) := by revert c; decide +kernel
theorem off4_eq (c : Dev nD) (r : Fin 3) : k0_off4 c (BitVec.ofNat 32 r.val) = ioff true (sh (6 - r.val) c) := by revert c r; decide +kernel
theorem off5_eq (c : Dev nD) (r : Fin 3) : k0_off5 c (BitVec.ofNat 32 r.val) = ioff false (sh (2 + r.val) c) := by revert c r; decide +kernel
theorem off6_eq (c : Dev nD) : k0_off6 c = ooff true c := by revert c; decide +kernel
theorem off7_eq (c : Dev nD) : k0_off7 c = ooff false c := by revert c; decide +kernel
theorem off8_eq (c : Dev nD) (r : Fin 3) : k0_off8 c (BitVec.ofNat 32 r.val) = ooff true (sh (3 + 3 * r.val) c) := by revert c r; decide +kernel
theorem off9_eq (c : Dev nD) (r : Fin 3) : k0_off9 c (BitVec.ofNat 32 r.val) = ooff false (sh (1 + r.val) c) := by revert c r; decide +kernel

/-! ## What the pieces hold -/

/-- One value per element of a 256 × 2048 block. -/
abbrev Blk (F : FTy → Type) : Type := FVec F S256x2048 .f32

/-- The half `d` of chunk `j` of device `c`'s `partial`. -/
def part (d : Bool) (c j : Dev nD) : Blk F := (inp d j).view.read (Elt F) (m ((c : Thread nD τ).loc main_arg0))

/-- Chunk `c` of device `c`'s `resid`, -/
def rchunk (c : Dev nD) : FVec F S512x2048 .f32 := (res c).view.read (Elt F) (m ((c : Thread nD τ).loc main_arg1))
/-- and its half `d`. -/
def rhalf (d : Bool) (c : Dev nD) : Blk F := rbuf.view.readAt (Elt F) (hrect d).toLoadRect (rchunk m c)

/-- `gamma` as device `c` staged it. -/
def gam (c : Dev nD) : FVec F S2048 .f32 := (win0_0.blk (0 : Fin 1)).view.read (Elt F) (m ((c : Thread nD τ).loc main_arg2))

/-- A block plus its residual, divided by its rows' root mean square and scaled: the body's arithmetic. -/
def norm (a r : Blk F) (g : FVec F S2048 .f32) : Blk F :=
  k0_pay8 (shapeCast S1x256x2048 a shapeCasts_S256x2048_S1x256x2048) r g

/-- What direction `d` has reduced on device `c` after `s` hops. -/
def acc (d : Bool) : ℕ → Dev nD → Blk F
  | 0, c => part m d c (fr d c)
  | s + 1, c => addf (acc d s (fr d c)) (part m d c (sh (if d then 6 - s else 2 + s) c))

/-- The finished half `d` of chunk `c`, as device `c` computes it. -/
def fin (d : Bool) (c : Dev nD) : Blk F := norm (acc m d 3 c) (rhalf m d c) (gam m c)

/-- What device `c` sends in direction `d` at hop `k`. -/
def src (d : Bool) : ℕ → Dev nD → Blk F
  | 0, c => acc m d 0 c
  | 1, c => acc m d 1 c
  | 2, c => acc m d 2 c
  | 3, c => fin m d c
  | 4, c => fin m d (fr d c)
  | _, c => fin m d (fr d (fr d c))

/-- The whole result: row `i` belongs to chunk `i / 512`, top half or bottom half. -/
def outV : (main_v1 : Ref sig .tc).ty.Contents (Elt F) := fun i =>
  fin m (decide ((i 0).val % 512 < 256)) ⟨(i 0).val / 512, by have := (i 0).isLt; exact Nat.div_lt_of_lt_mul this⟩
    (fun a => match a with
      | ⟨0, _⟩ => (⟨(i 0).val % 256, Nat.mod_lt _ (by decide)⟩ : Fin 256)
      | ⟨1, _⟩ => (i 1 : Fin 2048))

end Cert.KernelIdeal.Ring

end
-- ==== Proof.Sched.lean ====
/-
# The schedule of the ring's semaphores

What each round of each semaphore is paid, by whom, and what the payment hands over (the table of `Common`), stated for the
rounds library; and what a device still owes, with the order in which the waits may block.
-/
module

public import proofs.«01_k».proof.Proof.Common

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The ghost state: the pipeline's, the ring's rounds, the counters of the local copies -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
/-- The rounds of the ring, in their place in the ghost state. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER (F := F)).LandsIn (upEmb : UEmb _ (MT nD τ sig ℕ (Elt F) ℕ UU ℕ)) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores -/

/-- The barrier semaphore, which the launch does not own alone. -/
abbrev barS : Sem sig := (SemArray.scalar (sig.barrier 0 rfl) : Sems sig S_).sem
/-- The send semaphore of a direction and slot. -/
def sendQ : Bool → Bool → DmaSem sig
  | true, false => 1 | true, true => 2 | false, false => 5 | false, true => 6
/-- The receive semaphore of a direction and slot. -/
def recvQ : Bool → Bool → DmaSem sig
  | true, false => 3 | true, true => 4 | false, false => 7 | false, true => 8

abbrev barC (c : Dev nD) : GSem nD τ sig := ((c : Thread nD τ), .reg barS)
abbrev sendC (d s : Bool) (c : Dev nD) : GSem nD τ sig := ((c : Thread nD τ), .dma (sendQ d s))
abbrev recvC (d s : Bool) (c : Dev nD) : GSem nD τ sig := ((c : Thread nD τ), .dma (recvQ d s))

/-- What a semaphore is for. -/
inductive Role
  | bar | send (d s : Bool) | recv (d s : Bool) | own
  deriving DecidableEq

/-- What each semaphore is for. -/
def role : SemLoc sig → Role
  | .reg _ => .bar
  | .dma q => match q.val with
    | 1 => .send true false | 2 => .send true true | 3 => .recv true false | 4 => .recv true true
    | 5 => .send false false | 6 => .send false true | 7 => .recv false false | 8 => .recv false true
    | _ => .own

theorem role_bar : role (.reg barS) = .bar := rfl
theorem role_send (d s : Bool) : role (.dma (sendQ d s)) = .send d s := by cases d <;> cases s <;> rfl
theorem role_recv (d s : Bool) : role (.dma (recvQ d s)) = .recv d s := by cases d <;> cases s <;> rfl

/-- The credit of one slot's transfer. -/
abbrev N : ℕ := (slot true false).view.dmaCredit
theorem N_pos : 0 < N := View.dmaCredit_pos _ (by decide)
theorem N_slot (d s : Bool) : (slot d s).view.dmaCredit = N := by cases d <;> cases s <;> rfl

/-! ## The schedule -/

/-- What the payment of direction `d` at round `k` of `c`'s barrier hands over: the landing slot of `go d c`, and that this device
    has reached the round of its receive semaphore that the coming transfer pays. -/
def barPay (d : Bool) (k : ℕ) (c : Dev nD) : sProp 𝕄 :=
  iprop((∃ v, owns (go d c : Thread nD τ) (slot d (rs k)) fullShare v) ∗ reached ER (recvC d (rs k) (go d c)) (rd k))
/-- What the completed send of hop `k` hands back: the sent slot. -/
def sendPay (d : Bool) (k : ℕ) (c : Dev nD) : sProp 𝕄 := owns (c : Thread nD τ) (slot d (ss k)) fullShare (src m d k c)
/-- What the landing of hop `k` hands over: the landing slot holding what the sender sent, and that the sender is past its barrier of hop `k`. -/
def recvPay (d : Bool) (k : ℕ) (c : Dev nD) : sProp 𝕄 :=
  iprop(owns (c : Thread nD τ) (slot d (rs k)) fullShare (src m d k (fr d c)) ∗ reached ER (barC (fr d c)) (k + 1))

/-- The rounds of the ring. -/
def Rd : Rounds.Schedule (GSem nD τ sig) Bool 𝕄 where
  duties g r := if g.1.2 = .tc then (match role g.2 with
    | .bar => if r < 6 then Finset.univ else ∅
    | .send _ s => if r < rounds s then {false} else ∅
    | .recv _ s => if r < rounds (!s) then {false} else ∅
    | .own => ∅) else ∅
  unitless _ := False
  amount g _ _ := if role g.2 = .bar then 1 else N
  payload g r b := match role g.2 with
    | .bar => barPay b r g.1.1
    | .send d s => sendPay m d (hop s r) g.1.1
    | .recv d s => recvPay m d (hop (!s) r) g.1.1
    | .own => iprop(emp)
  amount_pos g _ _ _ := by
    by_cases h : role g.2 = .bar
    · rw [if_pos h]; exact Nat.one_pos
    · rw [if_neg h]; exact N_pos

instance Rd_payload_storable (g : GSem nD τ sig) (r : ℕ) (b : Bool) : BI.Storable (upEmb : UEmb _ 𝕄) ((Rd (F := F) m).payload g r b) := by
  show BI.Storable upEmb (match role g.2 with
    | .bar => barPay b r g.1.1
    | .send d s => sendPay m d (hop s r) g.1.1
    | .recv d s => recvPay m d (hop (!s) r) g.1.1
    | .own => iprop(emp))
  unfold barPay sendPay recvPay
  split <;> infer_instance

section Lemmas
variable (c : Dev nD) (d : Bool) (k : ℕ) (hk : k < 6)
include hk

theorem duties_bar : (Rd (F := F) m).duties (barC c) k = Finset.univ := by
  dsimp only [Rd]; rw [if_pos rfl, role_bar]; exact if_pos hk
theorem duties_send : (Rd (F := F) m).duties (sendC d (ss k) c) (rd k) = {false} := by
  dsimp only [Rd]; rw [if_pos rfl, role_send]; exact if_pos (rd_lt k hk)
theorem duties_recv : (Rd (F := F) m).duties (recvC d (rs k) c) (rd k) = {false} := by
  dsimp only [Rd]; rw [if_pos rfl, role_recv]; dsimp only [rs]; rw [Bool.not_not]; exact if_pos (rd_lt k hk)
omit hk in
theorem amount_bar (r : ℕ) (b : Bool) : (Rd (F := F) m).amount (barC c) r b = 1 := by dsimp only [Rd]; exact if_pos rfl
omit hk in
theorem amount_send (s : Bool) (r : ℕ) (b : Bool) : (Rd (F := F) m).amount (sendC d s c) r b = N := by
  dsimp only [Rd]; rw [role_send]; exact if_neg (fun h => by cases h)
omit hk in
theorem amount_recv (s : Bool) (r : ℕ) (b : Bool) : (Rd (F := F) m).amount (recvC d s c) r b = N := by
  dsimp only [Rd]; rw [role_recv]; exact if_neg (fun h => by cases h)

theorem expect_bar : (Rd (F := F) m).expect (barC c) k = 2 := by
  unfold Schedule.expect Schedule.amountOf
  rw [duties_bar m c k hk, Finset.sum_congr rfl fun b _ => amount_bar m c k b, Finset.sum_const, Finset.card_univ, Fintype.card_bool, smul_eq_mul]
theorem expect_send : (Rd (F := F) m).expect (sendC d (ss k) c) (rd k) = N := by
  unfold Schedule.expect Schedule.amountOf; rw [duties_send m c d k hk, Finset.sum_singleton, amount_send]
theorem expect_recv : (Rd (F := F) m).expect (recvC d (rs k) c) (rd k) = N := by
  unfold Schedule.expect Schedule.amountOf; rw [duties_recv m c d k hk, Finset.sum_singleton, amount_recv]

omit hk in
theorem payload_bar (b : Bool) : (Rd (F := F) m).payload (barC c) k b = barPay b k c := by dsimp only [Rd]; rw [role_bar]
theorem payload_send (b : Bool) : (Rd (F := F) m).payload (sendC d (ss k) c) (rd k) b = sendPay m d k c := by
  dsimp only [Rd]; rw [role_send]; dsimp only; rw [hop_rd k hk]
theorem payload_recv (b : Bool) : (Rd (F := F) m).payload (recvC d (rs k) c) (rd k) b = recvPay m d k c := by
  dsimp only [Rd]; rw [role_recv]; dsimp only [rs]; rw [Bool.not_not, hop_rd k hk]

/-- The whole of a barrier round: both neighbours' payments. -/
theorem rest_bar : bigSep ((Rd (F := F) m).duties (barC c) k \ ∅) (fun b => (Rd (F := F) m).payload (barC c) k b)
    = iprop(barPay true k c ∗ barPay false k c) := by
  rw [Finset.sdiff_empty, duties_bar m c k hk, bigSep_univ_eq_bigSepL [true, false] (by decide) (by decide), bigSepL_cons_cons, bigSepL_singleton,
    payload_bar, payload_bar]
  rfl
theorem rest_send : bigSep ((Rd (F := F) m).duties (sendC d (ss k) c) (rd k) \ ∅) (fun b => (Rd (F := F) m).payload (sendC d (ss k) c) (rd k) b)
    = sendPay m d k c := by
  rw [Finset.sdiff_empty, duties_send m c d k hk, bigSep_singleton, payload_send m c d k hk]
theorem rest_recv : bigSep ((Rd (F := F) m).duties (recvC d (rs k) c) (rd k) \ ∅) (fun b => (Rd (F := F) m).payload (recvC d (rs k) c) (rd k) b)
    = recvPay m d k c := by
  rw [Finset.sdiff_empty, duties_recv m c d k hk, bigSep_singleton, payload_recv m c d k hk]

end Lemmas

theorem later_bar (c : Dev nD) : ∀ r, 6 ≤ r → (Rd (F := F) m).duties (barC c) r = ∅ := fun r hr => by
  dsimp only [Rd]; rw [if_pos rfl, role_bar]; exact if_neg (Nat.not_lt.mpr hr)
theorem later_send (d s : Bool) (c : Dev nD) : ∀ r, rounds s ≤ r → (Rd (F := F) m).duties (sendC d s c) r = ∅ := fun r hr => by
  dsimp only [Rd]; rw [if_pos rfl, role_send]; exact if_neg (Nat.not_lt.mpr hr)
theorem later_recv (d s : Bool) (c : Dev nD) : ∀ r, rounds (!s) ≤ r → (Rd (F := F) m).duties (recvC d s c) r = ∅ := fun r hr => by
  dsimp only [Rd]; rw [if_pos rfl, role_recv]; exact if_neg (Nat.not_lt.mpr hr)

/-! ## What a device owes, and the order of the waits -/

/-- The receive credit of hop `k` that device `c` owes in direction `d`. -/
abbrev oweR (d : Bool) (k : ℕ) (c : Dev nD) : CellTallies nD τ sig ℕ := tallyAt (recvC d (rs k) (go d c)) k N
/-- The barrier unit of hop `k` that device `c` owes to `fr d c`. -/
abbrev oweB (d : Bool) (k : ℕ) (c : Dev nD) : CellTallies nD τ sig ℕ := tallyAt (barC (fr d c)) k 1

/-- What device `c` owes with `n` hops still to come, in the order it pays. -/
def rem (c : Dev nD) : ℕ → CellTallies nD τ sig ℕ
  | 0 => 0
  | n + 1 => (((rem c n + oweR false (5 - n) c) + oweR true (5 - n) c) + oweB false (5 - n) c) + oweB true (5 - n) c

/-- The hops, on the cells of the TensorCores. -/
def L (g : GSem nD τ sig) : Finset ℕ := if g.1.2 = .tc then Finset.range 6 else ∅
/-- The order of the waits: barrier of hop `k`, then landing of hop `k`, then the next hop; everything a device does alone comes first. -/
def lv (g : GSem nD τ sig) (k : ℕ) : ℕ := match role g.2 with
  | .bar => 2 * k + 1
  | .recv _ _ => 2 * k + 2
  | _ => 0

theorem L_of_ne (g : GSem nD τ sig) (h : g.1.2 ≠ .tc) : L g = ∅ := if_neg h
theorem L_tc (c : Dev nD) (sm : SemLoc sig) : L ((c : Thread nD τ), sm) = Finset.range 6 := if_pos rfl

/-- Everything owed in `O` stands at level `n` or higher. -/
def Above (n : ℕ) (O : CellTallies nD τ sig ℕ) : Prop := ∀ g i, 0 < O g i → i ∈ L g ∧ n ≤ lv g i

theorem Above.zero (n : ℕ) : Above n 0 := fun _ _ h => absurd h (Nat.lt_irrefl 0)
theorem Above.mono {n n' : ℕ} {O : CellTallies nD τ sig ℕ} (h : Above n O) (hn : n' ≤ n) : Above n' O :=
  fun g i hg => ⟨(h g i hg).1, hn.trans (h g i hg).2⟩
theorem Above.add {n : ℕ} {O O' : CellTallies nD τ sig ℕ} (h : Above n O) (h' : Above n O') : Above n (O + O') := fun g i hg => by
  rw [Pi.add_apply, Finsupp.add_apply] at hg
  rcases Nat.add_pos_iff_pos_or_pos.mp hg with hg | hg
  · exact h g i hg
  · exact h' g i hg
theorem Above.at {n : ℕ} (c : Dev nD) (sm : SemLoc sig) (k a : ℕ) (hk : k < 6) (hn : n ≤ lv ((c : Thread nD τ), sm) k) :
    Above n (tallyAt ((c : Thread nD τ), sm) k a) := fun g i hg => by
  rw [tallyAt_apply] at hg
  by_cases h : g = ((c : Thread nD τ), sm) ∧ i = k
  · rw [h.1, h.2, L_tc]; exact ⟨Finset.mem_range.mpr hk, hn⟩
  · rw [if_neg h] at hg; exact absurd hg (Nat.lt_irrefl 0)

theorem lv_bar (c : Dev nD) (k : ℕ) : lv (barC c) k = 2 * k + 1 := rfl
theorem lv_recv (d s : Bool) (c : Dev nD) (k : ℕ) : lv (recvC d s c) k = 2 * k + 2 := by unfold lv; rw [role_recv]
theorem lv_send (d s : Bool) (c : Dev nD) (k : ℕ) : lv (sendC d s c) k = 0 := by unfold lv; rw [role_send]

theorem above_oweR (d : Bool) (k : ℕ) (hk : k < 6) (c : Dev nD) : Above (2 * k + 2) (oweR d k c) :=
  Above.at _ _ _ _ hk (by rw [lv_recv])
theorem above_oweB (d : Bool) (k : ℕ) (hk : k < 6) (c : Dev nD) : Above (2 * k + 1) (oweB d k c) :=
  Above.at _ _ _ _ hk (by rw [lv_bar])

theorem above_rem (c : Dev nD) : ∀ n, n ≤ 6 → Above (2 * (6 - n) + 1) (rem c n)
  | 0, _ => Above.zero _
  | n + 1, h => by
    have e : 5 - n = 6 - (n + 1) := by omega
    have hk : 5 - n < 6 := by omega
    refine Above.add (Above.add (Above.add (Above.add ((above_rem c n (by omega)).mono (by omega)) ?_) ?_) ?_) ?_
    · exact (above_oweR false (5 - n) hk c).mono (by omega)
    · exact (above_oweR true (5 - n) hk c).mono (by omega)
    · exact (above_oweB false (5 - n) hk c).mono (by omega)
    · exact (above_oweB true (5 - n) hk c).mono (by omega)

/-- A wait at a level below everything owed may block. -/
theorem mayWait (c : Dev nD) (sm : SemLoc sig) (k : ℕ) (hk : k < 6) {n : ℕ} {O : CellTallies nD τ sig ℕ} (hn : lv ((c : Thread nD τ), sm) k < n) (hO : Above n O) :
    (levAts L lv : sProp 𝕄) ⊢ MayWait (c : Thread nD τ) sm k O :=
  Pipeline.mayWait_of_levAts (by rw [L_tc]; exact Finset.mem_range.mpr hk) fun g i hg => ⟨(hO g i hg).1, hn.trans_le (hO g i hg).2⟩

end Cert.KernelIdeal.Ring

end
-- ==== Proof.Rules.lean ====
/-
# One rule per operation of the kernel

For each kind of operation the kernel performs — a signal to a neighbour's barrier, the wait on one's own, a transfer of a slot, the two
waits that end it, a copy inside the device and its wait, loads and stores of a slot — what it needs and what it leaves, in
terms of the hop `k` and the direction `d`.
-/
module

public import proofs.«01_k».proof.Proof.Sched
public import Idealize.ShloMosaic.Lib.Pipeline.Value

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none
abbrev EC : UEmb Counters (MT nD τ sig ℕ (Elt F) ℕ UU ℕ) := countersEmb

/-! ## What every device knows -/

/-- The ring's semaphores of one device: barrier, sends, receives. -/
abbrev csem : Fin 9 → SemLoc sig
  | 0 => .reg barS | 1 => .dma 1 | 2 => .dma 2 | 3 => .dma 3 | 4 => .dma 4 | 5 => .dma 5 | 6 => .dma 6 | 7 => .dma 7 | 8 => .dma 8
abbrev kcell (ci : Dev nD × Fin 9) : GSem nD τ sig := ((ci.1 : Thread nD τ), csem ci.2)

/-- The invariant of one semaphore, under whatever name it was allocated. -/
def known (g : GSem nD τ sig) : sProp 𝕄 := iprop(∃ κ : ℕ, cellInv ER (Rd m) κ g)
instance known_persistent (g : GSem nD τ sig) : BI.Persistent (known m g) := by unfold known; infer_instance

/-- The invariants of all the ring's semaphores, that each has reached its first round, and the order of the waits. -/
def recs : sProp 𝕄 := iprop((bigSep Finset.univ fun ci => known m (kcell ci))
  ∗ (bigSep Finset.univ fun ci : Dev nD × Fin 9 => reached ER (kcell ci) 0) ∗ levAts L lv)
instance recs_persistent : BI.Persistent (recs (F := F) m) := by unfold recs; infer_instance

theorem recs_known (ci : Dev nD × Fin 9) : recs m ⊢ known m (kcell ci) := by
  unfold recs; rw [bigSep_univ_at _ ci]; iintro ⟨⟨H, -⟩, -⟩; iexact H
theorem recs_reached (ci : Dev nD × Fin 9) : recs m ⊢ reached ER (kcell ci) 0 := by
  unfold recs; rw [bigSep_univ_at (fun ci : Dev nD × Fin 9 => reached ER (kcell ci) 0) ci]; iintro ⟨-, ⟨H, -⟩, -⟩; iexact H
theorem recs_lev : recs m ⊢ levAts L lv := by unfold recs; iintro ⟨-, -, H⟩; iexact H

/-- The place of a send semaphore among the nine. -/
def sendI : Bool → Bool → Fin 9
  | true, false => 1 | true, true => 2 | false, false => 5 | false, true => 6
/-- The place of a receive semaphore among the nine. -/
def recvI : Bool → Bool → Fin 9
  | true, false => 3 | true, true => 4 | false, false => 7 | false, true => 8
theorem kcell_send (d s : Bool) (c : Dev nD) : kcell (c, sendI d s) = sendC d s c := by cases d <;> cases s <;> rfl
theorem kcell_recv (d s : Bool) (c : Dev nD) : kcell (c, recvI d s) = recvC d s c := by cases d <;> cases s <;> rfl

theorem known_bar (c : Dev nD) : recs m ⊢ known m (barC c) := recs_known m (c, 0)
theorem known_send (d s : Bool) (c : Dev nD) : recs m ⊢ known m (sendC d s c) := by rw [← kcell_send]; exact recs_known m _
theorem known_recv (d s : Bool) (c : Dev nD) : recs m ⊢ known m (recvC d s c) := by rw [← kcell_recv]; exact recs_known m _
theorem start_bar (c : Dev nD) : recs m ⊢ reached ER (barC c) 0 := recs_reached m (c, 0)
theorem start_send (d s : Bool) (c : Dev nD) : recs m ⊢ reached ER (sendC d s c) 0 := by rw [← kcell_send]; exact recs_reached m _
theorem start_recv (d s : Bool) (c : Dev nD) : recs m ⊢ reached ER (recvC d s c) 0 := by rw [← kcell_recv]; exact recs_reached m _

/-- Device `c` owes `O`, having waited on whatever it has. -/
def Ow (c : Dev nD) (O : CellTallies nD τ sig ℕ) : sProp 𝕄 := iprop(∃ W : Waits sig ℕ, owes (c : Thread nD τ) O W)

/-- A device's place on a semaphore: all rounds before `r` are collected, none of round `r`. -/
def pos (g : GSem nD τ sig) (r : ℕ) : sProp 𝕄 := iprop(atPos ER g r ∅ 0 ∗ reached ER g r)

abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A piece overwritten entirely holds what was written. -/
theorem owns_write_univ (c : Thread nD τ) {sp : Space} {s : Shape} {e : EltTy} (M : Memref sig c.2.kind sp s e) (f : Buf (Elt F) (M.view.loc c)) (w : s.Idx → Elt F e) :
    (M.view.loc c ↦[M.view.set]{fullShare} (M.view.write (Elt F) f w Finset.univ) : sProp 𝕄) ⊢ owns c M fullShare w := by
  unfold owns
  iintro H
  iexists _
  isplitr
  rotate_left
  · iexact H
  · ipureintro; exact View.read_write_univ _ _

/-- Slot `s` of direction `d` holds `X`, and is this device's. -/
def sl (c : Dev nD) (d s : Bool) (X : Blk F) : sProp 𝕄 := owns (c : Thread nD τ) (slot d s) fullShare X
/-- The slot is this device's, whatever it holds. -/
def slAny (c : Dev nD) (d s : Bool) : sProp 𝕄 := iprop(∃ X, owns (c : Thread nD τ) (slot d s) fullShare X)
theorem sl_any (c : Dev nD) (d s : Bool) (X : Blk F) : sl c d s X ⊢ slAny c d s := by
  unfold sl slAny; iintro H; iexists X; iexact H

/-! ## The ring's operations -/

section Ring
variable (c : Dev nD) (d : Bool) (k : ℕ) (hk : k < 6)
variable {α : Type} {Q : α → sProp (MT nD τ sig ℕ (Elt F) ℕ UU ℕ)} {K : PUnit → Prog (TpuEff nD τ sig (Elt F) Λ₀ .tc) α} {O : CellTallies nD τ sig ℕ}
include hk

/-- The signal of hop `k` to `fr d c`: it hands over this device's landing slot of direction `d`. -/
theorem wp_sig {s' : Bool} (hs' : rs k = s') {r : ℕ} (hr : rd k = r) {n : Dev nD} (hn : n = fr d c) {q : Sem sig} (hq : q = barS) {a : ℕ} (ha : a = 1)
    {O₀ : CellTallies nD τ sig ℕ} (hO : O₀ = O + oweB d k c) :
    iprop(recs m ∗ Ow c O₀ ∗ dutyTok ER (barC (fr d c)) k d ∗ reached ER (barC (fr d c)) k
        ∗ slAny c d s' ∗ pos (recvC d s' c) r)
      ⊢ iprop(((Ow c O ∗ pos (recvC d s' c) r) -∗ wpc c (K ⟨⟩) Q) -∗ wpc c (.op (.semSignal (n : Thread nD τ) q a) K) Q) := by
  subst hn hq ha hs' hr hO
  unfold pos slAny
  iintro ⟨#HR, HO, Ht, #Hr, Hs, Hp, #Hv⟩ Hk
  ihave Hb := (known_bar m (fr d c)) $$ HR
  unfold known
  icases Hb with ⟨%κ, #Hb⟩
  unfold Ow
  icases HO with ⟨%W, HO⟩
  iapply (Rounds.wp_signal 𝒱₀ ER (Rd m) (c : Thread nD τ) none (dst := (fr d c : Thread nD τ)) (κ := κ) (d := d)
    (by rw [duties_bar m _ k hk]; exact Finset.mem_univ _) (amount_bar m (fr d c) k d) k O rfl) $$ [HO Ht Hs]
  · isplitr; · iexact Hb
    isplitl [HO]; · iexact HO
    isplitl [Ht]; · iexact Ht
    isplitl [Hs]
    · rw [payload_bar]; unfold barPay; rw [go_fr]
      isplitl [Hs]; · iexact Hs
      iexact Hv
    iexact Hr
  iintro HO
  iapply Hk
  isplitl [HO]; · iexists W; iexact HO
  isplitl [Hp]; · iexact Hp
  iexact Hv

omit d in
/-- The wait on the own barrier at hop `k`: both neighbours' landing slots. -/
theorem wp_barWait (hO : Above (2 * k + 2) O) {q : Sem sig} (hq : q = barS) {a : ℕ} (ha : a = 2) :
    iprop(recs m ∗ cred (tallyAt (barC c) k 2) ∗ Ow c O ∗ pos (barC c) k)
      ⊢ iprop(((Ow c O ∗ pos (barC c) (k + 1) ∗ reached ER (barC c) (k + 1) ∗ barPay true k c ∗ barPay false k c) -∗ wpc c (K ⟨⟩) Q)
          -∗ wpc c (.op (.semWait q a) K) Q) := by
  subst hq ha
  unfold pos Ow
  iintro ⟨#HR, Hc, ⟨%W, HO⟩, Hp, -⟩ Hk
  ihave Hb := (known_bar m c) $$ HR
  unfold known
  icases Hb with ⟨%κ, #Hb⟩
  iapply (Rounds.wp_wait_rest_token 𝒱₀ ER (Rd m) (c : Thread nD τ) none (κ := κ)
      (wpE_semWait_eq 𝒱₀ (c : Thread nD τ) none Set.univ) (Set.mem_univ _) k (O := O) (W := W) (R := k) (m := 0) (T := ∅)
      (by rw [expect_bar m c k hk])) $$ [Hc HO Hp]
  · isplitr; · iexact Hb
    isplitl [Hc]; · iexact Hc
    isplitl [HO]; · iexact HO
    isplitr; · iapply (mayWait c (.reg barS) k hk (by rw [lv_bar]; exact Nat.lt_succ_self _) hO); iapply (recs_lev m); iexact HR
    iexact Hp
  iintro ⟨HO, Hp, #Hr, Hpay⟩
  ihave Hpay := (Entails.of_eq (rest_bar m c k hk)) $$ Hpay
  iapply Hk
  isplitl [HO]; · iexists _; iexact HO
  isplitl [Hp]
  · isplitl [Hp]; · iexact Hp
    iexact Hr
  isplitr; · iexact Hr
  iexact Hpay

/-- The transfer of hop `k` in direction `d`. -/
theorem wp_snd {s s' : Bool} (hs : ss k = s) (hs' : rs k = s') {r : ℕ} (hr : rd k = r) {X : Blk F} (hX : X = src m d k c) {O₀ : CellTallies nD τ sig ℕ} (hO : O₀ = O + oweR d k c)
    {n : Dev nD} (hn : n = go d c)
    {sM : Memref sig .tc .vmem S256x2048 .f32} (hsM : sM = slot d s)
    {dM : Memref sig (Dev.tc n : Thread nD τ).2.kind .vmem S256x2048 .f32} (hdM : dM = slot d s')
    {qs qr : DmaSem sig} (hqs : qs = sendQ d s) (hqr : qr = recvQ d s')
    {hsc : dM.view.ref.isScScratch = false} {hsrc : sM.view.WordExact} {hdst : dM.view.WordExact}
    {hsem : DmaTarget.Typed .vmem (.dma qr) (.remote (Dev.tc n : Thread nD τ) dM (.dma qs) hsc)} :
    iprop(recs m ∗ sl c d s X ∗ barPay d k c ∗ reached ER (barC c) (k + 1)
        ∗ Ow c O₀ ∗ dutyTok ER (sendC d s c) r false ∗ pos (sendC d s c) r
        ∗ dutyTok ER (recvC d s' (go d c)) r false)
      ⊢ iprop(((cred (tallyAt (sendC d s c) 0 N) ∗ Ow c O ∗ pos (sendC d s c) r) -∗ wpc c (K ⟨⟩) Q)
          -∗ wpc c (.op (.enqueueDma sM (.remote (Dev.tc n : Thread nD τ) dM (.dma qs) hsc) (.dma qr) hsrc hdst hsem) K) Q) := by
  subst hs hs' hr hX hO hn hsM hdM hqs hqr
  unfold Ow barPay sl pos
  iintro ⟨#HR, Hs, ⟨⟨%v, Hd⟩, #Hrv⟩, #Hbr, ⟨%W, HO⟩, Hts, ⟨Hp, #Hrs⟩, Htr⟩ Hk
  ihave Hb := (known_send m d (ss k) c) $$ HR
  ihave Hb' := (known_recv m d (rs k) (go d c)) $$ HR
  unfold known
  icases Hb with ⟨%κ, #Hb⟩
  icases Hb' with ⟨%κ', #Hb'⟩
  unfold owns
  icases Hs with ⟨%fs, %hfs, Hs⟩
  icases Hd with ⟨%fd, %hfd, Hd⟩
  iapply (Rounds.wp_send_pointsTo_with 𝒱₀ ER (Rd m) (c : Thread nD τ) none (κ₁ := κ) (κ₂ := κ')
    (c' := (go d c : Thread nD τ)) (dst := slot d (rs k)) (sem := .dma (recvQ d (rs k))) (sS := .dma (sendQ d (ss k)))
    (r₁ := rd k) (r₂ := rd k) (d₁ := false) (d₂ := false) (fd := fd) (fs := fs) (q := fullShare) (F := reached ER (barC c) (k + 1))
    (by rw [duties_send m c d k hk]; exact Finset.mem_singleton_self _) (by rw [duties_recv m (go d c) d k hk]; exact Finset.mem_singleton_self _)
    k 0 N (N_slot d (rs k)) (amount_send m c d _ _ false) (amount_recv m (go d c) d _ _ false) O rfl (W := W)
    (by rw [payload_send m c d k hk]; unfold sendPay; rw [← hfs]; exact owns_intro _ _ _ _)
    (by rw [payload_recv m (go d c) d k hk]; unfold recvPay; rw [fr_go, ← hfs]
        iintro ⟨H, HF⟩
        isplitl [H]
        · iapply (owns_write_univ (go d c : Thread nD τ) (slot d (rs k)) fd _) $$ H
        iexact HF)) $$ [Hs Hd HO Hts Htr]
  · isplitr; · iexact Hb
    isplitr; · iexact Hb'
    isplitl [Hs]; · iexact Hs
    isplitl [Hd]
    · isplitl [Hd]; · iexact Hd
      iexact Hbr
    isplitl [HO]; · iexact HO
    isplitl [Hts]; · iexact Hts
    isplitr; · iexact Hrs
    isplitl [Htr]; · iexact Htr
    iexact Hrv
  iintro ⟨Hc, HO⟩
  iapply Hk
  isplitl [Hc]; · iexact Hc
  isplitl [HO]; · iexists W; iexact HO
  isplitl [Hp]; · iexact Hp
  iexact Hrs

/-- The wait for the own transfer of hop `k`: the sent slot is this device's again. -/
theorem wp_sndWait {s : Bool} (hs : ss k = s) {r : ℕ} (hr : rd k = r) {X : Blk F} (hX : src m d k c = X) (hO : Above 1 O) {q : DmaSem sig} (hq : q = sendQ d s)
    {κ' : Kind} {sp sp' : Space} {s' : Shape} {e' : EltTy} {sw : Memref sig .tc sp' s' e'} {dw : Memref sig κ' sp S256x2048 .f32} (hN : dw.view.dmaCredit = N)
    {h₁ : sw.view.WordExact} {h₂ : dw.view.WordExact} :
    iprop(recs m ∗ cred (tallyAt (sendC d s c) 0 N) ∗ Ow c O ∗ pos (sendC d s c) r)
      ⊢ iprop(((Ow c O ∗ pos (sendC d s c) (r + 1) ∗ sl c d s X) -∗ wpc c (K ⟨⟩) Q)
          -∗ wpc c (.op (.waitDma2 q sw dw h₁ h₂) K) Q) := by
  subst hq hs hr hX
  unfold pos Ow sl
  iintro ⟨#HR, Hc, ⟨%W, HO⟩, Hp, -⟩ Hk
  ihave Hb := (known_send m d (ss k) c) $$ HR
  unfold known
  icases Hb with ⟨%κ, #Hb⟩
  rw [← hN]
  iapply (Rounds.wp_wait_rest_token 𝒱₀ ER (Rd m) (c : Thread nD τ) none (κ := κ)
      (wpE_waitDma2_eq 𝒱₀ (c : Thread nD τ) none Set.univ) (Set.mem_univ _) 0 (O := O) (W := W) (R := rd k) (m := 0) (T := ∅)
      (by rw [Nat.zero_add, expect_send m c d k hk]; exact hN)) $$ [Hc HO Hp]
  · isplitr; · iexact Hb
    isplitl [Hc]; · iexact Hc
    isplitl [HO]; · iexact HO
    isplitr; · iapply (mayWait c _ 0 (by decide) (by rw [lv_send]; exact Nat.one_pos) hO); iapply (recs_lev m); iexact HR
    iexact Hp
  iintro ⟨HO, Hp, #Hr, Hpay⟩
  ihave Hpay := (Entails.of_eq (rest_send m c d k hk)) $$ Hpay
  iapply Hk
  isplitl [HO]; · iexists _; iexact HO
  isplitl [Hp]
  · isplitl [Hp]; · iexact Hp
    iexact Hr
  unfold sendPay
  iexact Hpay

/-- The wait for the neighbour's transfer of hop `k`: the landing slot, holding what the neighbour sent. -/
theorem wp_rcvWait {s : Bool} (hs : rs k = s) {r : ℕ} (hr : rd k = r) {X : Blk F} (hX : src m d k (fr d c) = X) (hO : Above (2 * k + 3) O) {q : DmaSem sig} (hq : q = recvQ d s)
    {κ' : Kind} {sp sp' : Space} {s' : Shape} {e' : EltTy} {sw : Memref sig .tc sp' s' e'} {dw : Memref sig κ' sp S256x2048 .f32} (hN : dw.view.dmaCredit = N)
    {h₁ : sw.view.WordExact} {h₂ : dw.view.WordExact} :
    iprop(recs m ∗ cred (tallyAt (recvC d s c) k N) ∗ Ow c O ∗ pos (recvC d s c) r)
      ⊢ iprop(((Ow c O ∗ pos (recvC d s c) (r + 1) ∗ sl c d s X
              ∗ reached ER (barC (fr d c)) (k + 1)) -∗ wpc c (K ⟨⟩) Q)
          -∗ wpc c (.op (.waitDma2 q sw dw h₁ h₂) K) Q) := by
  subst hq hs hr hX
  unfold pos Ow sl
  iintro ⟨#HR, Hc, ⟨%W, HO⟩, Hp, -⟩ Hk
  ihave Hb := (known_recv m d (rs k) c) $$ HR
  unfold known
  icases Hb with ⟨%κ, #Hb⟩
  rw [← hN]
  iapply (Rounds.wp_wait_rest_token 𝒱₀ ER (Rd m) (c : Thread nD τ) none (κ := κ)
      (wpE_waitDma2_eq 𝒱₀ (c : Thread nD τ) none Set.univ) (Set.mem_univ _) k (O := O) (W := W) (R := rd k) (m := 0) (T := ∅)
      (by rw [Nat.zero_add, expect_recv m c d k hk]; exact hN)) $$ [Hc HO Hp]
  · isplitr; · iexact Hb
    isplitl [Hc]; · iexact Hc
    isplitl [HO]; · iexact HO
    isplitr; · iapply (mayWait c _ k hk (by rw [lv_recv]; exact Nat.lt_succ_self _) hO); iapply (recs_lev m); iexact HR
    iexact Hp
  iintro ⟨HO, Hp, #Hr, Hpay⟩
  ihave Hpay := (Entails.of_eq (rest_recv m c d k hk)) $$ Hpay
  iapply Hk
  isplitl [HO]; · iexists _; iexact HO
  isplitl [Hp]
  · isplitl [Hp]; · iexact Hp
    iexact Hr
  unfold recvPay
  iexact Hpay

end Ring

/-! ## Copies inside one device -/

theorem bigSep_one (D : sProp 𝕄) : bigSep Finset.univ (fun _ : Fin 1 => D) = D := by
  rw [bigSep_univ_eq_bigSepL [0] (by decide) (by decide), bigSepL_singleton]
theorem bigSep_two (D₀ D₁ : sProp 𝕄) : bigSep Finset.univ (fun t : Fin 2 => if t = 0 then D₀ else D₁) = iprop(D₀ ∗ D₁) := by
  rw [bigSep_univ_eq_bigSepL [0, 1] (by decide) (by decide), bigSepL_cons_cons, bigSepL_singleton, if_pos rfl, if_neg (by decide)]; rfl

section Local
variable (c : Dev nD) {α : Type} {Q : α → sProp (MT nD τ sig ℕ (Elt F) ℕ UU ℕ)} {K : PUnit → Prog (TpuEff nD τ sig (Elt F) Λ₀ .tc) α} {O : CellTallies nD τ sig ℕ}

/-- A piece owned outright at these contents. -/
def has {sp : Space} {s : Shape} {e : EltTy} (M : Memref sig .tc sp s e) (X : s.Idx → Elt F e) : sProp 𝕄 := owns (c : Thread nD τ) M fullShare X
/-- A piece owned outright at some contents. -/
def any {sp : Space} {s : Shape} {e : EltTy} (M : Memref sig .tc sp s e) : sProp 𝕄 := iprop(∃ X, owns (c : Thread nD τ) M fullShare X)

/-- What a finished copy gives back: the destination rewritten, and the source. -/
def done {sp sp' : Space} {s : Shape} {e : EltTy} (sM : Memref sig .tc sp s e) (dM : Memref sig .tc sp' s e) (q : PosShare TreeShare) (X : s.Idx → Elt F e) : sProp 𝕄 :=
  iprop(owns (c : Thread nD τ) dM fullShare X ∗ owns (c : Thread nD τ) sM q X)
instance done_storable {sp sp' : Space} {s : Shape} {e : EltTy} (sM : Memref sig .tc sp s e) (dM : Memref sig .tc sp' s e) (q : PosShare TreeShare) (X : s.Idx → Elt F e) :
    BI.Storable (upEmb : UEmb _ 𝕄) (done c sM dM q X) := by unfold done; infer_instance

/-- One copy in flight on a semaphore of its own. -/
def fly (sm : DmaSem sig) (n : ℕ) (D : sProp 𝕄) : sProp 𝕄 := Batch EC (c : Thread nD τ) (.dma sm) 0 n (fun _ : Fin 1 => D) 1 0

/-- A copy begins. -/
theorem wp_cp {sp sp' : Space} {s : Shape} {e : EltTy} {sM : Memref sig .tc sp s e} {dM : Memref sig .tc sp' s e} (sM' : Memref sig .tc sp s e) (dM' : Memref sig .tc sp' s e)
    (hs : sM = sM') (hd : dM = dM') {sm : DmaSem sig} (sm' : DmaSem sig) (hm : sm = sm') (n : ℕ) (hn : dM'.view.dmaCredit = n)
    {h₁ : sM.view.WordExact} {h₂ : dM.view.WordExact} {h₃ : DmaTarget.Typed (p := (Proc.tc : Proc τ)) (nD := nD) sp (.dma sm) (.here dM)} {q : PosShare TreeShare} {X : s.Idx → Elt F e} :
    iprop(owns (c : Thread nD τ) sM' q X ∗ any c dM' ∗ semVal ((c : Thread nD τ), .dma sm') 0)
      ⊢ iprop((fly c sm' n (done c sM' dM' q X) -∗ wpc c (K ⟨⟩) Q)
          -∗ wpc c (.op (.enqueueDma sM (.here dM) (.dma sm) h₁ h₂ h₃) K) Q) := by
  subst hs hd hm
  unfold fly any
  iintro ⟨Hs, ⟨%Y, Hd⟩, Hv⟩ Hk
  unfold owns
  icases Hs with ⟨%fs, %hfs, Hs⟩
  icases Hd with ⟨%fd, %hfd, Hd⟩
  imod (batch_alloc' EC (c : Thread nD τ) 0 n (fun _ : Fin 1 => done c sM dM q X)) $$ Hv with HB
  iapply (wp_dmaBatch EC 𝒱₀ (c : Thread nD τ) none (D := fun _ : Fin 1 => done c sM dM q X) (j := 0) (u := 0) (fs := fs) (fd := fd) (q := q) (sm := .dma sm) 0 n hn subset_rfl (by decide) (Nat.zero_le _)
    (by unfold done; rw [← hfs]
        iintro ⟨H, HF⟩
        isplitl [H]
        · iapply (owns_write_univ (c : Thread nD τ) dM fd _) $$ H
        iapply (owns_intro _ _ _ _) $$ HF)) $$ [Hs Hd HB]
  · isplitl [Hs]; · iexact Hs
    isplitl [Hd]; · iexact Hd
    iexact HB
  iintro HB
  iapply Hk
  iexact HB

/-- The wait for it. -/
theorem wp_cpWait (hO : Above 1 O) {sm : DmaSem sig} (sm' : DmaSem sig) (hm : sm = sm') (hl : role (.dma sm') = .own) (n : ℕ) (hn0 : 0 < n) {D : sProp 𝕄}
    {κ' : Kind} {sp sp' : Space} {s s' : Shape} {e e' : EltTy} {sw : Memref sig .tc sp' s' e'} {dw : Memref sig κ' sp s e} (hN : dw.view.dmaCredit = n)
    {h₁ : sw.view.WordExact} {h₂ : dw.view.WordExact} :
    iprop(recs m ∗ fly c sm' n D ∗ Ow c O)
      ⊢ iprop(((D ∗ semVal ((c : Thread nD τ), .dma sm') 0 ∗ Ow c O) -∗ wpc c (K ⟨⟩) Q)
          -∗ wpc c (.op (.waitDma2 sm sw dw h₁ h₂) K) Q) := by
  subst hm
  unfold fly Ow
  iintro ⟨#HR, HB, ⟨%W, HO⟩⟩ Hk
  iapply (wp_waitBatchLastO EC 𝒱₀ (c : Thread nD τ) none (D := fun _ : Fin 1 => D) (u := 0) 0 hN hn0 (by omega) (O := O) (W := W)) $$ [HB HO]
  · isplitl [HB]; · iexact HB
    isplitl [HO]; · iexact HO
    iapply (mayWait c _ 0 (by decide) (by unfold lv; rw [hl]; exact Nat.one_pos) hO); iapply (recs_lev m); iexact HR
  iintro ⟨HD, Hv, HO⟩
  ihave HD := (Entails.of_eq (bigSep_one D)) $$ HD
  iapply Hk
  isplitl [HD]; · iexact HD
  isplitl [Hv]; · iexact Hv
  iexists _; iexact HO

/-- Two copies on one semaphore, `j` of them begun and `u` units collected. -/
def fly2 (sm : DmaSem sig) (D₀ D₁ : sProp 𝕄) (j u : ℕ) : sProp 𝕄 := Batch EC (c : Thread nD τ) (.dma sm) 0 N (fun t : Fin 2 => if t = 0 then D₀ else D₁) j u

section Two
variable {sm : DmaSem sig} (sm' : DmaSem sig) (hm : sm = sm') {sM sM₁ : Memref sig .tc .vmem S256x2048 .f32} {dM dM₁ : Memref sig .tc .hbm S256x2048 .f32} (sM' sM₁' : Memref sig .tc .vmem S256x2048 .f32)
  (dM' dM₁' : Memref sig .tc .hbm S256x2048 .f32) (hs : sM = sM') (hd : dM = dM') (hN : dM'.view.dmaCredit = N) {X X₁ : Blk F}
include hm hs hd hN

/-- The first of two copies on one semaphore begins. -/
theorem wp_cp0 {h₁ : sM.view.WordExact} {h₂ : dM.view.WordExact} {h₃ : DmaTarget.Typed (p := (Proc.tc : Proc τ)) (nD := nD) .vmem (.dma sm) (.here dM)} :
    iprop(has c sM' X ∗ any c dM' ∗ semVal ((c : Thread nD τ), .dma sm') 0)
      ⊢ iprop((fly2 c sm' (done c sM' dM' fullShare X) (done c sM₁' dM₁' fullShare X₁) 1 0 -∗ wpc c (K ⟨⟩) Q)
          -∗ wpc c (.op (.enqueueDma sM (.here dM) (.dma sm) h₁ h₂ h₃) K) Q) := by
  subst hs hd hm
  unfold fly2 any has
  iintro ⟨Hs, ⟨%Y, Hd⟩, Hv⟩ Hk
  unfold owns
  icases Hs with ⟨%fs, %hfs, Hs⟩
  icases Hd with ⟨%fd, %hfd, Hd⟩
  haveI : ∀ t : Fin 2, BI.Storable (upEmb : UEmb _ 𝕄) (if t = 0 then done c sM dM fullShare X else done c sM₁' dM₁' fullShare X₁) := fun t => by
    split <;> infer_instance
  imod (batch_alloc' EC (c : Thread nD τ) 0 N (fun t : Fin 2 => if t = 0 then done c sM dM fullShare X else done c sM₁' dM₁' fullShare X₁)) $$ Hv with HB
  iapply (wp_dmaBatch EC 𝒱₀ (c : Thread nD τ) none (D := fun t : Fin 2 => if t = 0 then done c sM dM fullShare X else done c sM₁' dM₁' fullShare X₁)
    (j := 0) (u := 0) (fs := fs) (fd := fd) (q := fullShare) (sm := .dma sm) 0 N hN subset_rfl (by decide) (Nat.zero_le _)
    (by rw [if_pos (show (⟨0, by decide⟩ : Fin 2) = 0 from rfl)]; unfold done; rw [← hfs]
        iintro ⟨H, HF⟩
        isplitl [H]
        · iapply (owns_write_univ (c : Thread nD τ) dM fd _) $$ H
        iapply (owns_intro _ _ _ _) $$ HF)) $$ [Hs Hd HB]
  · isplitl [Hs]; · iexact Hs
    isplitl [Hd]; · iexact Hd
    iexact HB
  iintro HB
  iapply Hk
  iexact HB

/-- The second begins. -/
theorem wp_cp1 {D₀ : sProp 𝕄} {h₁ : sM.view.WordExact} {h₂ : dM.view.WordExact} {h₃ : DmaTarget.Typed (p := (Proc.tc : Proc τ)) (nD := nD) .vmem (.dma sm) (.here dM)} :
    iprop(has c sM' X ∗ any c dM' ∗ fly2 c sm' D₀ (done c sM' dM' fullShare X) 1 0)
      ⊢ iprop((fly2 c sm' D₀ (done c sM' dM' fullShare X) 2 0 -∗ wpc c (K ⟨⟩) Q)
          -∗ wpc c (.op (.enqueueDma sM (.here dM) (.dma sm) h₁ h₂ h₃) K) Q) := by
  subst hs hd hm
  unfold fly2 any has
  iintro ⟨Hs, ⟨%Y, Hd⟩, HB⟩ Hk
  unfold owns
  icases Hs with ⟨%fs, %hfs, Hs⟩
  icases Hd with ⟨%fd, %hfd, Hd⟩
  iapply (wp_dmaBatch EC 𝒱₀ (c : Thread nD τ) none (D := fun t : Fin 2 => if t = 0 then D₀ else done c sM dM fullShare X)
    (j := 1) (u := 0) (fs := fs) (fd := fd) (q := fullShare) (sm := .dma sm) 0 N hN subset_rfl (by decide) (Nat.zero_le _)
    (by rw [if_neg (show ¬ ((⟨1, by decide⟩ : Fin 2) = 0) by decide)]; unfold done; rw [← hfs]
        iintro ⟨H, HF⟩
        isplitl [H]
        · iapply (owns_write_univ (c : Thread nD τ) dM fd _) $$ H
        iapply (owns_intro _ _ _ _) $$ HF)) $$ [Hs Hd HB]
  · isplitl [Hs]; · iexact Hs
    isplitl [Hd]; · iexact Hd
    iexact HB
  iintro HB
  iapply Hk
  iexact HB

end Two

section TwoWait

/-- The first of the two waits. -/
theorem wp_cpWait0 (hO : Above 1 O) {sm : DmaSem sig} (sm' : DmaSem sig) (hm : sm = sm') (hl : role (.dma sm') = .own) {D₀ D₁ : sProp 𝕄}
    {κ' : Kind} {sp sp' : Space} {s s' : Shape} {e e' : EltTy} {sw : Memref sig .tc sp' s' e'} {dw : Memref sig κ' sp s e} (hN : dw.view.dmaCredit = N)
    {h₁ : sw.view.WordExact} {h₂ : dw.view.WordExact} :
    iprop(recs m ∗ fly2 c sm' D₀ D₁ 2 0 ∗ Ow c O)
      ⊢ iprop(((fly2 c sm' D₀ D₁ 2 N ∗ Ow c O) -∗ wpc c (K ⟨⟩) Q)
          -∗ wpc c (.op (.waitDma2 sm sw dw h₁ h₂) K) Q) := by
  subst hm
  unfold fly2 Ow
  iintro ⟨#HR, HB, ⟨%W, HO⟩⟩ Hk
  iapply (wp_waitBatchO EC 𝒱₀ (c : Thread nD τ) none (D := fun t : Fin 2 => if t = 0 then D₀ else D₁) (u := 0) 0 hN
    (by have := N_pos; omega) (O := O) (W := W)) $$ [HB HO]
  · isplitl [HB]; · iexact HB
    isplitl [HO]; · iexact HO
    iapply (mayWait c _ 0 (by decide) (by unfold lv; rw [hl]; exact Nat.one_pos) hO); iapply (recs_lev m); iexact HR
  rw [Nat.zero_add]
  iintro ⟨HB, HO⟩
  iapply Hk
  isplitl [HB]; · iexact HB
  iexists _; iexact HO

/-- The second: both copies are done. -/
theorem wp_cpWait1 (hO : Above 1 O) {sm : DmaSem sig} (sm' : DmaSem sig) (hm : sm = sm') (hl : role (.dma sm') = .own) {D₀ D₁ : sProp 𝕄}
    {κ' : Kind} {sp sp' : Space} {s s' : Shape} {e e' : EltTy} {sw : Memref sig .tc sp' s' e'} {dw : Memref sig κ' sp s e} (hN : dw.view.dmaCredit = N)
    {h₁ : sw.view.WordExact} {h₂ : dw.view.WordExact} :
    iprop(recs m ∗ fly2 c sm' D₀ D₁ 2 N ∗ Ow c O)
      ⊢ iprop(((D₀ ∗ D₁ ∗ semVal ((c : Thread nD τ), .dma sm') 0 ∗ Ow c O) -∗ wpc c (K ⟨⟩) Q)
          -∗ wpc c (.op (.waitDma2 sm sw dw h₁ h₂) K) Q) := by
  subst hm
  unfold fly2 Ow
  iintro ⟨#HR, HB, ⟨%W, HO⟩⟩ Hk
  iapply (wp_waitBatchLastO EC 𝒱₀ (c : Thread nD τ) none (D := fun t : Fin 2 => if t = 0 then D₀ else D₁) (u := N) 0 hN N_pos
    (by omega) (O := O) (W := W)) $$ [HB HO]
  · isplitl [HB]; · iexact HB
    isplitl [HO]; · iexact HO
    iapply (mayWait c _ 0 (by decide) (by unfold lv; rw [hl]; exact Nat.one_pos) hO); iapply (recs_lev m); iexact HR
  iintro ⟨HD, Hv, HO⟩
  ihave HD := (Entails.of_eq (bigSep_two D₀ D₁)) $$ HD
  icases HD with ⟨H0, H1⟩
  iapply Hk
  isplitl [H0]; · iexact H0
  isplitl [H1]; · iexact H1
  isplitl [Hv]; · iexact Hv
  iexists _; iexact HO

end TwoWait

end Local

/-! ## Loads and stores -/

/-- A block with the leading axis of a slot. -/
abbrev up (X : Blk F) : FVec F S1x256x2048 .f32 := shapeCast S1x256x2048 X shapeCasts_S256x2048_S1x256x2048

theorem down_up (X : Blk F) : shapeCast S256x2048 (up X) shapeCasts_S1x256x2048_S256x2048 = X := shapeCast_shapeCast _ _ _
theorem up_down (X : FVec F S1x256x2048 .f32) : up (shapeCast S256x2048 X shapeCasts_S1x256x2048_S256x2048) = X := shapeCast_shapeCast _ _ _

theorem slot_read (d s : Bool) (f : (buf d).view.ty.Contents (Elt F)) :
    (slot d s).view.read (Elt F) f = shapeCast S256x2048 ((slot3 d s).view.read (Elt F) f) shapeCasts_S1x256x2048_S256x2048 := rfl

section Access
variable (c : Dev nD) {α : Type} {Q : α → sProp (MT nD τ sig ℕ (Elt F) ℕ UU ℕ)}

/-- A load of a slot. -/
theorem wp_ldSlot (d s : Bool) {M : Memref sig .tc .vmem S2x256x2048 .f32} (hM : M = buf d) {off : Fin 3 → Nat}
    {h : ∀ a, off a + S1x256x2048.size a ≤ S2x256x2048.size a} (ho : off = soff s)
    {hl : M.view.LoadsAt (Rect.unit (s := S2x256x2048) off S1x256x2048.size h).toLoadRect}
    {K : Vec F S1x256x2048 .f32 → Prog (TpuEff nD τ sig (Elt F) Λ₀ .tc) α} {X : Blk F} :
    sl c d s X
      ⊢ iprop((sl c d s X -∗ wpc c (K (up X)) Q)
          -∗ wpc c (.op (.load M (Rect.unit (s := S2x256x2048) off S1x256x2048.size h).toLoadRect hl) K) Q) := by
  subst hM ho
  unfold sl owns
  iintro ⟨%f, %hf, H⟩ Hk
  have hset : (slot d s).view.set = (slot3 d s).view.set := Memref.set_view_squeeze _ _
  rw [hset]
  iapply (wp_load_rect 𝒱₀ (c : Thread nD τ) none Set.univ (m := buf d) (r := srect s) (subset_refl _)) $$ H
  iintro H
  rw [← hf, slot_read, up_down]
  iapply Hk
  iexists f
  isplitr; · ipureintro; rfl
  iexact H

/-- A store over a whole slot. -/
theorem wp_stSlot (d s : Bool) {M : Memref sig .tc .vmem S2x256x2048 .f32} (hM : M = buf d) {off : Fin 3 → Nat}
    {h : ∀ a, off a + S1x256x2048.size a ≤ S2x256x2048.size a} (ho : off = soff s) {w : FVec F S1x256x2048 .f32} {Z : Blk F} (hw : w = up Z)
    {hx : (M.access (Rect.unit (s := S2x256x2048) off S1x256x2048.size h)).Stores Finset.univ} {hm}
    {K : PUnit → Prog (TpuEff nD τ sig (Elt F) Λ₀ .tc) α} :
    slAny c d s
      ⊢ iprop((sl c d s Z -∗ wpc c (K ⟨⟩) Q)
          -∗ wpc c (.op (.store M (Rect.unit (s := S2x256x2048) off S1x256x2048.size h) w Finset.univ hx hm) K) Q) := by
  subst hM ho hw
  unfold slAny sl owns
  iintro ⟨%X, %f, %hf, H⟩ Hk
  have hset : (slot d s).view.set = (slot3 d s).view.set := Memref.set_view_squeeze _ _
  rw [hset]
  iapply (wp_store 𝒱₀ (c : Thread nD τ) none Set.univ (m := buf d) (r := srect s) (Mk := Finset.univ) (S := (slot3 d s).view.set) (View.setOn_subset_set _ _)) $$ H
  iintro H
  iapply Hk
  iexists _
  isplitr
  rotate_left
  · iexact H
  · ipureintro
    rw [slot_read]
    refine Eq.trans (congrArg (fun v => shapeCast S256x2048 v shapeCasts_S1x256x2048_S256x2048) ?_) (down_up Z)
    exact View.read_write_univ _ _

/-- A load of the staging buffer of direction `d`. -/
theorem wp_ldPbuf (d : Bool) {M : Memref sig .tc .vmem S256x2048 .f32} (hM : M = pbuf d) {off : Fin 2 → Nat}
    {h : ∀ a, off a + S256x2048.size a ≤ S256x2048.size a} (ho : off = fun _ => 0)
    {hl : M.view.LoadsAt (Rect.unit (s := S256x2048) off S256x2048.size h).toLoadRect}
    {K : Vec F S256x2048 .f32 → Prog (TpuEff nD τ sig (Elt F) Λ₀ .tc) α} {X : Blk F} :
    has c (pbuf d) X
      ⊢ iprop((has c (pbuf d) X -∗ wpc c (K X) Q)
          -∗ wpc c (.op (.load M (Rect.unit (s := S256x2048) off S256x2048.size h).toLoadRect hl) K) Q) := by
  subst hM
  have key : ∀ f : (pbuf d).view.ty.Contents (Elt F), (pbuf d).view.readAt (Elt F) (Rect.unit (s := S256x2048) off S256x2048.size h).toLoadRect f = (pbuf d).view.read (Elt F) f := by
    cases d
    · exact fun f => Memref.readAt_unit_zero (Elt F) cc0_scratch3 ho h f
    · exact fun f => Memref.readAt_unit_zero (Elt F) cc0_scratch2 ho h f
  unfold has owns
  iintro ⟨%f, %hf, H⟩ Hk
  iapply (wp_load 𝒱₀ (c : Thread nD τ) none Set.univ (S := (pbuf d).view.set) (View.setOn_subset_set _ _)) $$ H
  iintro H
  rw [key f, hf]
  iapply Hk
  iexists f
  isplitr; · ipureintro; exact hf
  iexact H

/-- A load of one half of the residual's buffer. -/
theorem wp_ldRbuf (d : Bool) {M : Memref sig .tc .vmem S512x2048 .f32} (hM : M = rbuf) {off : Fin 2 → Nat}
    {h : ∀ a, off a + S256x2048.size a ≤ S512x2048.size a} (ho : off = hoff d)
    {hl : M.view.LoadsAt (Rect.unit (s := S512x2048) off S256x2048.size h).toLoadRect}
    {K : Vec F S256x2048 .f32 → Prog (TpuEff nD τ sig (Elt F) Λ₀ .tc) α} :
    has c rbuf (rchunk m c)
      ⊢ iprop((has c rbuf (rchunk m c) -∗ wpc c (K (rhalf m d c)) Q)
          -∗ wpc c (.op (.load M (Rect.unit (s := S512x2048) off S256x2048.size h).toLoadRect hl) K) Q) := by
  subst hM ho
  unfold has owns
  iintro ⟨%f, %hf, H⟩ Hk
  iapply (wp_load 𝒱₀ (c : Thread nD τ) none Set.univ (S := rbuf.view.set) (View.setOn_subset_set _ _)) $$ H
  iintro H
  unfold rhalf
  rw [show rchunk m c = f from hf.symm]
  iapply Hk
  iexists f
  isplitr; · ipureintro; rfl
  iexact H

/-- The buffer `gamma` is staged in. -/
abbrev gbuf : Memref sig .tc .vmem S2048 .f32 := Memref.whole cc0_stg0_0

/-- A load of `gamma`. -/
theorem wp_ldGam {M : Memref sig .tc .vmem S2048 .f32} (hM : M = gbuf) {off : Fin 1 → Nat}
    {h : ∀ a, off a + S2048.size a ≤ S2048.size a} (ho : off = fun _ => 0)
    {hl : M.view.LoadsAt (Rect.unit (s := S2048) off S2048.size h).toLoadRect}
    {K : Vec F S2048 .f32 → Prog (TpuEff nD τ sig (Elt F) Λ₀ .tc) α} :
    has c gbuf (gam m c)
      ⊢ iprop((has c gbuf (gam m c) -∗ wpc c (K (gam m c)) Q)
          -∗ wpc c (.op (.load M (Rect.unit (s := S2048) off S2048.size h).toLoadRect hl) K) Q) := by
  subst hM
  unfold has owns
  iintro ⟨%f, %hf, H⟩ Hk
  iapply (wp_load 𝒱₀ (c : Thread nD τ) none Set.univ (S := gbuf.view.set) (View.setOn_subset_set _ _)) $$ H
  iintro H
  rw [show gbuf.view.readAt (Elt F) (Rect.unit (s := S2048) off S2048.size h).toLoadRect f = gam m c from (Memref.readAt_unit_zero (Elt F) cc0_stg0_0 ho h f).trans hf]
  iapply Hk
  iexists f
  isplitr; · ipureintro; exact hf
  iexact H

end Access

end Cert.KernelIdeal.Ring

end
-- ==== Proof.Steps.lean ====
/-
# The kernel's own copies, loads and stores

The rules for the pieces of memory this kernel moves, by name: the slots, the staging buffers, the pieces of `partial`, `resid` and the result.
-/
module

public import proofs.«01_k».proof.Proof.Rules

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg)

theorem N_pbuf (d : Bool) : (pbuf d).view.dmaCredit = N := by cases d <;> rfl
theorem N_out (d : Bool) (j : Dev nD) : (out d j).view.dmaCredit = N := by cases d <;> rfl

section Pieces
variable (c : Dev nD)

/-- The part of the operands' share that the kernel's copies read with; the rest stays whole. -/
abbrev rd₀ : PosShare TreeShare := fullShare.right

/-- Half `d` of chunk `j` of `partial`, to read. -/
def inO (d : Bool) (j : Dev nD) : sProp 𝕄 := owns (c : Thread nD τ) (inp d j) rd₀ (part m d c j)
/-- Chunk `c` of `resid`, to read. -/
def resO : sProp 𝕄 := owns (c : Thread nD τ) (res c) rd₀ (rchunk m c)
/-- Half `d` of chunk `j` of the result, holding what it shall. -/
def outO (d : Bool) (j : Dev nD) : sProp 𝕄 := owns (c : Thread nD τ) (out d j) fullShare (fin m d j)
/-- The same piece before it is written. -/
def outAny (d : Bool) (j : Dev nD) : sProp 𝕄 := iprop(∃ X, owns (c : Thread nD τ) (out d j) fullShare X)
/-- The staging buffer of direction `d` holds `X`. -/
def pb (d : Bool) (X : Blk F) : sProp 𝕄 := owns (c : Thread nD τ) (pbuf d) fullShare X
/-- It holds something. -/
def pbAny (d : Bool) : sProp 𝕄 := iprop(∃ X, owns (c : Thread nD τ) (pbuf d) fullShare X)
/-- The residual's buffer holds chunk `c`. -/
def rb : sProp 𝕄 := owns (c : Thread nD τ) rbuf fullShare (rchunk m c)
/-- It holds something. -/
def rbAny : sProp 𝕄 := iprop(∃ X, owns (c : Thread nD τ) rbuf fullShare X)
/-- `gamma` is staged. -/
def gb : sProp 𝕄 := owns (c : Thread nD τ) gbuf fullShare (gam m c)
/-- One of the semaphores of the device's own copies rests at zero. -/
def sem0 (sm : DmaSem sig) : sProp 𝕄 := semVal ((c : Thread nD τ), .dma sm) 0

theorem pb_any (d : Bool) (X : Blk F) : pb c d X ⊢ pbAny c d := by
  unfold pb pbAny; iintro H; iexists X; iexact H

variable {α : Type} {Q : α → sProp (MT nD τ sig ℕ (Elt F) ℕ UU ℕ)} {K : PUnit → Prog (TpuEff nD τ sig (Elt F) Λ₀ .tc) α} {O : CellTallies nD τ sig ℕ}

/-- A piece of `partial` starts on its way into a slot. -/
theorem wp_cpSlot (d s : Bool) (j : Dev nD) (sm' : DmaSem sig) {sm : DmaSem sig} (hm : sm = sm') {sM : Memref sig .tc .hbm S256x2048 .f32} {dM : Memref sig .tc .vmem S256x2048 .f32}
    (hs : sM = inp d j) (hd : dM = slot d s) {X : Blk F} (hX : part m d c j = X)
    {h₁ : sM.view.WordExact} {h₂ : dM.view.WordExact} {h₃ : DmaTarget.Typed (p := (Proc.tc : Proc τ)) (nD := nD) .hbm (.dma sm) (.here dM)} :
    iprop(inO m c d j ∗ slAny c d s ∗ sem0 c sm')
      ⊢ iprop((fly c sm' N iprop(sl c d s X ∗ inO m c d j) -∗ wpc c (K ⟨⟩) Q)
          -∗ wpc c (.op (.enqueueDma sM (.here dM) (.dma sm) h₁ h₂ h₃) K) Q) := by
  subst hX
  exact wp_cp c (inp d j) (slot d s) hs hd sm' hm N (N_slot d s)

/-- A piece of `partial` starts on its way into the staging buffer. -/
theorem wp_cpPbuf (d : Bool) (j : Dev nD) (sm' : DmaSem sig) {sm : DmaSem sig} (hm : sm = sm') {sM : Memref sig .tc .hbm S256x2048 .f32} {dM : Memref sig .tc .vmem S256x2048 .f32}
    (hs : sM = inp d j) (hd : dM = pbuf d)
    {h₁ : sM.view.WordExact} {h₂ : dM.view.WordExact} {h₃ : DmaTarget.Typed (p := (Proc.tc : Proc τ)) (nD := nD) .hbm (.dma sm) (.here dM)} :
    iprop(inO m c d j ∗ pbAny c d ∗ sem0 c sm')
      ⊢ iprop((fly c sm' N iprop(pb c d (part m d c j) ∗ inO m c d j) -∗ wpc c (K ⟨⟩) Q)
          -∗ wpc c (.op (.enqueueDma sM (.here dM) (.dma sm) h₁ h₂ h₃) K) Q) :=
  wp_cp c (inp d j) (pbuf d) hs hd sm' hm N (by cases d <;> rfl)

/-- How much a chunk of the residual credits its semaphore. -/
abbrev NR : ℕ := rbuf.view.dmaCredit

/-- The residual's chunk starts on its way. -/
theorem wp_cpRes (sm' : DmaSem sig) {sm : DmaSem sig} (hm : sm = sm') {sM : Memref sig .tc .hbm S512x2048 .f32} {dM : Memref sig .tc .vmem S512x2048 .f32}
    (hs : sM = res c) (hd : dM = rbuf)
    {h₁ : sM.view.WordExact} {h₂ : dM.view.WordExact} {h₃ : DmaTarget.Typed (p := (Proc.tc : Proc τ)) (nD := nD) .hbm (.dma sm) (.here dM)} :
    iprop(resO m c ∗ rbAny c ∗ sem0 c sm')
      ⊢ iprop((fly c sm' NR iprop(rb m c ∗ resO m c) -∗ wpc c (K ⟨⟩) Q)
          -∗ wpc c (.op (.enqueueDma sM (.here dM) (.dma sm) h₁ h₂ h₃) K) Q) :=
  wp_cp c (res c) rbuf hs hd sm' hm NR rfl

/-- The two pieces of the result that one semaphore brings, and the slots they come from. -/
abbrev outs (s : Bool) (j₀ j₁ : Dev nD) : ℕ → ℕ → sProp 𝕄 :=
  fly2 c 12 iprop(outO m c true j₀ ∗ sl c true s (fin m true j₀)) iprop(outO m c false j₁ ∗ sl c false s (fin m false j₁))

/-- The first of the two starts. -/
theorem wp_out0 (s : Bool) (j₀ j₁ : Dev nD) {sm : DmaSem sig} (hm : sm = 12) {sM : Memref sig .tc .vmem S256x2048 .f32} {dM : Memref sig .tc .hbm S256x2048 .f32}
    (hs : sM = slot true s) (hd : dM = out true j₀) {X : Blk F} (hX : X = fin m true j₀)
    {h₁ : sM.view.WordExact} {h₂ : dM.view.WordExact} {h₃ : DmaTarget.Typed (p := (Proc.tc : Proc τ)) (nD := nD) .vmem (.dma sm) (.here dM)} :
    iprop(sl c true s X ∗ outAny c true j₀ ∗ sem0 c 12)
      ⊢ iprop((outs m c s j₀ j₁ 1 0 -∗ wpc c (K ⟨⟩) Q)
          -∗ wpc c (.op (.enqueueDma sM (.here dM) (.dma sm) h₁ h₂ h₃) K) Q) := by
  subst hX
  exact wp_cp0 c 12 hm (slot true s) (slot false s) (out true j₀) (out false j₁) hs hd rfl

/-- The second starts. -/
theorem wp_out1 (s : Bool) (j₀ j₁ : Dev nD) {sm : DmaSem sig} (hm : sm = 12) {sM : Memref sig .tc .vmem S256x2048 .f32} {dM : Memref sig .tc .hbm S256x2048 .f32}
    (hs : sM = slot false s) (hd : dM = out false j₁) {X : Blk F} (hX : X = fin m false j₁)
    {h₁ : sM.view.WordExact} {h₂ : dM.view.WordExact} {h₃ : DmaTarget.Typed (p := (Proc.tc : Proc τ)) (nD := nD) .vmem (.dma sm) (.here dM)} :
    iprop(sl c false s X ∗ outAny c false j₁ ∗ outs m c s j₀ j₁ 1 0)
      ⊢ iprop((outs m c s j₀ j₁ 2 0 -∗ wpc c (K ⟨⟩) Q)
          -∗ wpc c (.op (.enqueueDma sM (.here dM) (.dma sm) h₁ h₂ h₃) K) Q) := by
  subst hX
  exact wp_cp1 c 12 hm (slot false s) (out false j₁) hs hd rfl

section Waits
theorem N_res : rbuf.view.dmaCredit = NR := rfl

variable {κ' : Kind} {sp sp' : Space} {s s' : Shape} {e e' : EltTy} {sw : Memref sig .tc sp' s' e'} {dw : Memref sig κ' sp s e}
    {h₁ : sw.view.WordExact} {h₂ : dw.view.WordExact}

/-- The wait for a copy of the device's own. -/
theorem wp_own (hO : Above 1 O) (sm' : DmaSem sig) {sm : DmaSem sig} (hm : sm = sm') (hl : role (.dma sm') = .own) (n : ℕ) (hn0 : 0 < n) {A B : sProp 𝕄}
    (hN : dw.view.dmaCredit = n) :
    iprop(recs m ∗ fly c sm' n iprop(A ∗ B) ∗ Ow c O)
      ⊢ iprop(((A ∗ B ∗ sem0 c sm' ∗ Ow c O) -∗ wpc c (K ⟨⟩) Q)
          -∗ wpc c (.op (.waitDma2 sm sw dw h₁ h₂) K) Q) := by
  iintro ⟨HR, HB, HO⟩ Hk
  iapply (wp_cpWait m c hO sm' hm hl n hn0 hN) $$ [HR HB HO]
  · iframe
  iintro ⟨⟨HA, HB⟩, Hv, HO⟩
  iapply Hk
  isplitl [HA]; · iexact HA
  isplitl [HB]; · iexact HB
  isplitl [Hv]; · unfold sem0; iexact Hv
  iexact HO

/-- The first of the two waits for pieces of the result. -/
theorem wp_outWait0 (hO : Above 1 O) (s : Bool) (j₀ j₁ : Dev nD) {sm : DmaSem sig} (hm : sm = 12) (d : Bool) (j : Dev nD)
    {dw : Memref sig .tc .hbm S256x2048 .f32} (hd : dw = out d j) {h₁ : sw.view.WordExact} {h₂ : dw.view.WordExact} :
    iprop(recs m ∗ outs m c s j₀ j₁ 2 0 ∗ Ow c O)
      ⊢ iprop(((outs m c s j₀ j₁ 2 N ∗ Ow c O) -∗ wpc c (K ⟨⟩) Q)
          -∗ wpc c (.op (.waitDma2 sm sw dw h₁ h₂) K) Q) :=
  wp_cpWait0 m c hO 12 hm rfl (by rw [hd, N_out])

/-- The second. -/
theorem wp_outWait1 (hO : Above 1 O) (s : Bool) (j₀ j₁ : Dev nD) {sm : DmaSem sig} (hm : sm = 12) (d : Bool) (j : Dev nD)
    {dw : Memref sig .tc .hbm S256x2048 .f32} (hd : dw = out d j) {h₁ : sw.view.WordExact} {h₂ : dw.view.WordExact} :
    iprop(recs m ∗ outs m c s j₀ j₁ 2 N ∗ Ow c O)
      ⊢ iprop(((outO m c true j₀ ∗ sl c true s (fin m true j₀) ∗ outO m c false j₁ ∗ sl c false s (fin m false j₁) ∗ sem0 c 12 ∗ Ow c O) -∗ wpc c (K ⟨⟩) Q)
          -∗ wpc c (.op (.waitDma2 sm sw dw h₁ h₂) K) Q) := by
  iintro ⟨HR, HB, HO⟩ Hk
  iapply (wp_cpWait1 m c hO 12 hm rfl (by rw [hd, N_out])) $$ [HR HB HO]
  · isplitl [HR]; · iexact HR
    isplitl [HB]; · iexact HB
    iexact HO
  iintro ⟨⟨HA, HA'⟩, ⟨HB, HB'⟩, Hv, HO⟩
  iapply Hk
  isplitl [HA]; · iexact HA
  isplitl [HA']; · iexact HA'
  isplitl [HB]; · iexact HB
  isplitl [HB']; · iexact HB'
  isplitl [Hv]; · unfold sem0; iexact Hv
  iexact HO

end Waits

section Loads
variable {V : Type} {K : V → Prog (TpuEff nD τ sig (Elt F) Λ₀ .tc) α}

/-- A load of the staging buffer. -/
theorem wp_ldP (d : Bool) {M : Memref sig .tc .vmem S256x2048 .f32} (hM : M = pbuf d) {off : Fin 2 → Nat}
    {h : ∀ a, off a + S256x2048.size a ≤ S256x2048.size a} (ho : off = fun _ => 0)
    {hl : M.view.LoadsAt (Rect.unit (s := S256x2048) off S256x2048.size h).toLoadRect}
    {K : Vec F S256x2048 .f32 → Prog (TpuEff nD τ sig (Elt F) Λ₀ .tc) α} {X : Blk F} :
    pb c d X
      ⊢ iprop((pb c d X -∗ wpc c (K X) Q)
          -∗ wpc c (.op (.load M (Rect.unit (s := S256x2048) off S256x2048.size h).toLoadRect hl) K) Q) := wp_ldPbuf c d hM ho

/-- A load of one half of the residual's chunk. -/
theorem wp_ldR (d : Bool) {M : Memref sig .tc .vmem S512x2048 .f32} (hM : M = rbuf) {off : Fin 2 → Nat}
    {h : ∀ a, off a + S256x2048.size a ≤ S512x2048.size a} (ho : off = hoff d)
    {hl : M.view.LoadsAt (Rect.unit (s := S512x2048) off S256x2048.size h).toLoadRect}
    {K : Vec F S256x2048 .f32 → Prog (TpuEff nD τ sig (Elt F) Λ₀ .tc) α} :
    rb m c
      ⊢ iprop((rb m c -∗ wpc c (K (rhalf m d c)) Q)
          -∗ wpc c (.op (.load M (Rect.unit (s := S512x2048) off S256x2048.size h).toLoadRect hl) K) Q) := wp_ldRbuf m c d hM ho

/-- A load of `gamma`. -/
theorem wp_ldG {M : Memref sig .tc .vmem S2048 .f32} (hM : M = gbuf) {off : Fin 1 → Nat}
    {h : ∀ a, off a + S2048.size a ≤ S2048.size a} (ho : off = fun _ => 0)
    {hl : M.view.LoadsAt (Rect.unit (s := S2048) off S2048.size h).toLoadRect}
    {K : Vec F S2048 .f32 → Prog (TpuEff nD τ sig (Elt F) Λ₀ .tc) α} :
    gb m c
      ⊢ iprop((gb m c -∗ wpc c (K (gam m c)) Q)
          -∗ wpc c (.op (.load M (Rect.unit (s := S2048) off S2048.size h).toLoadRect hl) K) Q) := wp_ldGam m c hM ho

/-- A load of a slot whose contents nobody uses. -/
theorem wp_ldAny (d s : Bool) {M : Memref sig .tc .vmem S2x256x2048 .f32} (hM : M = buf d) {off : Fin 3 → Nat}
    {h : ∀ a, off a + S1x256x2048.size a ≤ S2x256x2048.size a} (ho : off = soff s)
    {hl : M.view.LoadsAt (Rect.unit (s := S2x256x2048) off S1x256x2048.size h).toLoadRect}
    {K : Vec F S1x256x2048 .f32 → Prog (TpuEff nD τ sig (Elt F) Λ₀ .tc) α} {P : Prog (TpuEff nD τ sig (Elt F) Λ₀ .tc) α} (hK : ∀ x, K x = P) :
    slAny c d s
      ⊢ iprop((slAny c d s -∗ wpc c P Q)
          -∗ wpc c (.op (.load M (Rect.unit (s := S2x256x2048) off S1x256x2048.size h).toLoadRect hl) K) Q) := by
  unfold slAny
  iintro ⟨%X, H⟩ Hk
  iapply (wp_ldSlot c d s hM ho (X := X)) $$ [H]
  · unfold sl; iexact H
  iintro H
  rw [hK]
  iapply Hk
  iexists X
  unfold sl
  iexact H

end Loads

end Pieces

/-! ## What the stores write -/

theorem pay1_eq (X Y : Blk F) : k0_pay1 (up X) Y = up (addf X Y) := by unfold k0_pay1; dsimp only; rw [down_up]
theorem pay2_eq (X Y : Blk F) : k0_pay2 (up X) Y = up (addf X Y) := by unfold k0_pay2; dsimp only; rw [down_up]
theorem pay3_eq (X Y : Blk F) : k0_pay3 (up X) Y = up (addf X Y) := by unfold k0_pay3; dsimp only; rw [down_up]
theorem pay4_eq (X Y : Blk F) : k0_pay4 (up X) Y = up (addf X Y) := by unfold k0_pay4; dsimp only; rw [down_up]
theorem pay5_eq (X : Blk F) : k0_pay5 (up X) = X := down_up X
theorem pay6_eq (X Y : Blk F) : k0_pay6 X Y = up (addf X Y) := rfl
theorem pay7_eq (X Y : Blk F) : k0_pay7 (up X) Y = up (addf X Y) := by unfold k0_pay7; dsimp only; rw [down_up]
theorem pay8_eq (X Y : Blk F) (g : FVec F S2048 .f32) : k0_pay8 (up X) Y g = norm X Y g := rfl
theorem pay9_eq (X : Blk F) : k0_pay9 X = up X := rfl
theorem pay10_eq (X Y : Blk F) (g : FVec F S2048 .f32) : k0_pay10 (up X) Y g = up (norm X Y g) := rfl

/-! ## Where the stored pieces go -/

theorem out6 (c : Dev nD) : k0_off6 c = ooff true c := off6_eq c
theorem out7 (c : Dev nD) : k0_off7 c = ooff false c := off7_eq c
theorem out8_0 (c : Dev nD) : k0_off8 c 0#32 = ooff true (fr true c) := by revert c; decide +kernel
theorem out8_1 (c : Dev nD) : k0_off8 c 1#32 = ooff true (fr true (fr true c)) := by revert c; decide +kernel
theorem out8_2 (c : Dev nD) : k0_off8 c 2#32 = ooff true (fr true (fr true (fr true c))) := by revert c; decide +kernel
theorem out9_0 (c : Dev nD) : k0_off9 c 0#32 = ooff false (fr false c) := by revert c; decide +kernel
theorem out9_1 (c : Dev nD) : k0_off9 c 1#32 = ooff false (fr false (fr false c)) := by revert c; decide +kernel
theorem out9_2 (c : Dev nD) : k0_off9 c 2#32 = ooff false (fr false (fr false (fr false c))) := by revert c; decide +kernel

/-! ## What is owed in the course of one hop -/

/-- What device `c` owes in hop `k` after `j` of its two signals and two transfers. -/
def ow (c : Dev nD) (k : ℕ) : ℕ → CellTallies nD τ sig ℕ
  | 0 => (((rem c (5 - k) + oweR false k c) + oweR true k c) + oweB false k c) + oweB true k c
  | 1 => ((rem c (5 - k) + oweR false k c) + oweR true k c) + oweB false k c
  | 2 => (rem c (5 - k) + oweR false k c) + oweR true k c
  | 3 => rem c (5 - k) + oweR false k c
  | _ => rem c (5 - k)

theorem above_ow (c : Dev nD) (k : ℕ) (hk : k < 6) : Above (2 * k + 2) (ow c k 2) := by
  refine Above.add (Above.add ((above_rem c (5 - k) (by omega)).mono (by omega)) (above_oweR false k hk c)) (above_oweR true k hk c)

/-- The semaphore of the barrier, as the body names it. -/
abbrev barA : Sems sig S_ := SemArray.scalar (sig.barrier 0 (by decide))

/-- The end of a stretch. -/
theorem wp_fin (c : Dev nD) {α : Type} (a : α) (Q : α → sProp 𝕄) : Q a ⊢ wpc c (.ret a) Q := by
  unfold wpc
  rw [wp_ret]
  iintro H
  imodintro
  iexact H

theorem off0 : (![0] : Fin 1 → Nat) = fun _ => 0 := by decide
theorem off00 : (![0, 0] : Fin 2 → Nat) = fun _ => 0 := by decide

end Cert.KernelIdeal.Ring

end
-- ==== Proof.Parts.lean ====
module

public import proofs.«01_k».proof.Proof.Steps

@[expose] public section

set_option maxHeartbeats 4000000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg)

/-- Stretch 1 of the body. -/
theorem part1_wp (c : Dev nD) {Q : (Σ' (d0 : Dev nD) (v2 : BitVec 32) (v14 : BitVec 32) (v25 : BitVec 32), Sems sig S_) → sProp 𝕄} :
    iprop(recs m ∗ slAny c true true ∗ pos (recvC true true c) 0 ∗ Ow c (rem c 6) ∗ dutyTok ER (barC (fr true c)) 0 true ∗ slAny c false true ∗
      pos (recvC false true c) 0 ∗ dutyTok ER (barC (fr false c)) 0 false ∗ cred (tallyAt (barC c) 0 2) ∗ pos (barC c) 0)
      ⊢ iprop((∀ v2 v14 v25, (reached ER (barC (fr true c)) 0 ∗ reached ER (barC (fr false c)) 0 ∗ reached ER (barC c) 1 ∗ pos (recvC true true c) 0 ∗ pos (recvC false true c) 0 ∗
        Ow c (ow c 0 2) ∗ pos (barC c) 1 ∗ barPay true 0 c ∗ barPay false 0 c) -∗ Q ⟨c, v2, v14, v25, barA⟩)
          -∗ wpc c (k0_part1 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 ) Q) := by
  rw [k0_part1_eq_skeleton]; unfold k0_part1_skel
  simp only [semSignalWord, semWaitWord, Prog.lift, Prog.bind_op, Prog.bind_ret, Prog.pure_eq_ret, wp_deviceId]
  iintro ⟨#HR, Stt, Prtt, HO, Tb0t, Sft, Prft, Tb0f, Cb0, Pb⟩ Hk
  ihave #R0t := (start_bar m (fr true c)) $$ HR
  iapply (wp_sig m c true 0 (by decide) rfl rfl (dev1_eq c) rfl rfl (O := ow c 0 1) rfl) $$ [HO Tb0t Stt Prtt]
  · isplitr; · iexact HR
    isplitl [HO]; · iexact HO
    isplitl [Tb0t]; · iexact Tb0t
    isplitr; · iexact R0t
    isplitl [Stt]; · iexact Stt
    iexact Prtt
  iintro ⟨HO, Prtt⟩
  ihave #R0f := (start_bar m (fr false c)) $$ HR
  iapply (wp_sig m c false 0 (by decide) rfl rfl (dev2_eq c) rfl rfl (O := ow c 0 2) rfl) $$ [HO Tb0f Sft Prft]
  · isplitr; · iexact HR
    isplitl [HO]; · iexact HO
    isplitl [Tb0f]; · iexact Tb0f
    isplitr; · iexact R0f
    isplitl [Sft]; · iexact Sft
    iexact Prft
  iintro ⟨HO, Prft⟩
  iapply (wp_barWait m c 0 (by decide) (above_ow c 0 (by decide)) rfl rfl) $$ [Cb0 HO Pb]
  · isplitr; · iexact HR
    isplitl [Cb0]; · iexact Cb0
    isplitl [HO]; · iexact HO
    iexact Pb
  iintro ⟨HO, Pb, #B0, Bp0t, Bp0f⟩
  iapply (wp_fin c _ _)
  iapply Hk
  isplitr; · iexact R0t
  isplitr; · iexact R0f
  isplitr; · iexact B0
  isplitl [Prtt]; · iexact Prtt
  isplitl [Prft]; · iexact Prft
  isplitl [HO]; · iexact HO
  isplitl [Pb]; · iexact Pb
  isplitl [Bp0t]; · iexact Bp0t
  iexact Bp0f

/-- Stretch 2 of the body. -/
theorem part2_wp (c : Dev nD) (v2 : BitVec 32) {Q : (PUnit) → sProp 𝕄} :
    iprop(recs m ∗ resO m c ∗ rbAny c ∗ sem0 c 11 ∗ slAny c true false ∗ inO m c true (sh 3 c) ∗ sem0 c 9)
      ⊢ iprop((∀ r, (fly c 11 NR iprop(rb m c ∗ resO m c) ∗ fly c 9 N iprop(sl c true false (src m true 0 c) ∗ inO m c true (sh 3 c))) -∗ Q r)
          -∗ wpc c (k0_part2 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2) Q) := by
  rw [k0_part2_eq_skeleton]; unfold k0_part2_skel
  simp only [semSignalWord, semWaitWord, Prog.lift, Prog.bind_op, Prog.bind_ret, Prog.pure_eq_ret, wp_deviceId]
  iintro ⟨#HR, RO, RB, V11, Stf, It3, V9⟩ Hk
  iapply (wp_cpRes m c 11 rfl (res_of _ _ (off1_eq c)) rfl) $$ [RO RB V11]
  · isplitl [RO]; · iexact RO
    isplitl [RB]; · iexact RB
    iexact V11
  iintro L11
  iapply (wp_cpSlot m c true false (sh 3 c) 9 rfl (inp_of _ _ _ (off2_eq c)) rfl (X := src m true 0 c) rfl) $$ [It3 Stf V9]
  · isplitl [It3]; · iexact It3
    isplitl [Stf]; · iexact Stf
    iexact V9
  iintro L9
  iapply (wp_fin c _ _)
  iapply Hk
  isplitl [L11]; · iexact L11
  iexact L9

/-- Stretch 3 of the body. -/
theorem part3_wp (c : Dev nD) (v14 : BitVec 32) (v25 : BitVec 32) {Q : (PUnit) → sProp 𝕄} :
    iprop(recs m ∗ reached ER (barC c) 1 ∗ slAny c false false ∗ inO m c false (sh 1 c) ∗ sem0 c 10 ∗ Ow c (ow c 0 2) ∗
      fly c 9 N iprop(sl c true false (src m true 0 c) ∗ inO m c true (sh 3 c)) ∗ pos (sendC true false c) 0 ∗ barPay true 0 c ∗
      dutyTok ER (sendC true false c) 0 false ∗ dutyTok ER (recvC true true (go true c)) 0 false)
      ⊢ iprop((∀ r, (inO m c true (sh 3 c) ∗ sem0 c 9 ∗ sl c false false (src m false 0 c) ∗ inO m c false (sh 1 c) ∗ sem0 c 10 ∗ cred (tallyAt (sendC true false c) 0 N) ∗
        Ow c (ow c 0 3) ∗ pos (sendC true false c) 0) -∗ Q r)
          -∗ wpc c (k0_part3 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v14 v25) Q) := by
  rw [k0_part3_eq_skeleton]; unfold k0_part3_skel
  simp only [semSignalWord, semWaitWord, Prog.lift, Prog.bind_op, Prog.bind_ret, Prog.pure_eq_ret, wp_deviceId]
  iintro ⟨#HR, #B0, Sff, If1, V10, HO, L9, Pstf, Bp0t, Ts0t, Tr0t⟩ Hk
  iapply (wp_cpSlot m c false false (sh 1 c) 10 rfl (inp_of _ _ _ (off3_eq c)) rfl (X := src m false 0 c) rfl) $$ [If1 Sff V10]
  · isplitl [If1]; · iexact If1
    isplitl [Sff]; · iexact Sff
    iexact V10
  iintro L10
  iapply (wp_own m c ((above_ow c 0 (by decide)).mono (by decide)) 9 rfl rfl N N_pos (N_slot true false)) $$ [L9 HO]
  · isplitr; · iexact HR
    isplitl [L9]; · iexact L9
    iexact HO
  iintro ⟨Stf, It3, V9, HO⟩
  iapply (wp_own m c ((above_ow c 0 (by decide)).mono (by decide)) 10 rfl rfl N N_pos (N_slot false false)) $$ [L10 HO]
  · isplitr; · iexact HR
    isplitl [L10]; · iexact L10
    iexact HO
  iintro ⟨Sff, If1, V10, HO⟩
  iapply (wp_snd m c true 0 (by decide) (s := false) (s' := true) rfl rfl rfl rfl (O := ow c 0 3) rfl (dev3_eq c) rfl rfl rfl rfl) $$ [Stf Bp0t HO Ts0t Pstf Tr0t]
  · isplitr; · iexact HR
    isplitl [Stf]; · iexact Stf
    isplitl [Bp0t]; · iexact Bp0t
    isplitr; · iexact B0
    isplitl [HO]; · iexact HO
    isplitl [Ts0t]; · iexact Ts0t
    isplitl [Pstf]; · iexact Pstf
    iexact Tr0t
  iintro ⟨Cs0t, HO, Pstf⟩
  iapply (wp_fin c _ _)
  iapply Hk
  isplitl [It3]; · iexact It3
  isplitl [V9]; · iexact V9
  isplitl [Sff]; · iexact Sff
  isplitl [If1]; · iexact If1
  isplitl [V10]; · iexact V10
  isplitl [Cs0t]; · iexact Cs0t
  isplitl [HO]; · iexact HO
  iexact Pstf

/-- Stretch 4 of the body. -/
theorem part4_wp (c : Dev nD) (v2 : BitVec 32) {Q : (PUnit) → sProp 𝕄} :
    iprop(recs m ∗ reached ER (barC c) 1 ∗ sl c false false (src m false 0 c) ∗ pos (sendC false false c) 0 ∗ barPay false 0 c ∗ Ow c (ow c 0 3) ∗
      dutyTok ER (sendC false false c) 0 false ∗ dutyTok ER (recvC false true (go false c)) 0 false ∗ pbAny c true ∗ inO m c true (sh 6 c) ∗ sem0 c 9)
      ⊢ iprop((∀ r, (cred (tallyAt (sendC false false c) 0 N) ∗ Ow c (rem c 5) ∗ pos (sendC false false c) 0 ∗
        fly c 9 N iprop(pb c true (part m true c (sh 6 c)) ∗ inO m c true (sh 6 c))) -∗ Q r)
          -∗ wpc c (k0_part4 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2) Q) := by
  rw [k0_part4_eq_skeleton]; unfold k0_part4_skel
  simp only [semSignalWord, semWaitWord, Prog.lift, Prog.bind_op, Prog.bind_ret, Prog.pure_eq_ret, wp_deviceId]
  iintro ⟨#HR, #B0, Sff, Psff, Bp0f, HO, Ts0f, Tr0f, Pt, It6, V9⟩ Hk
  iapply (wp_snd m c false 0 (by decide) (s := false) (s' := true) rfl rfl rfl rfl (O := rem c 5) rfl (dev4_eq c) rfl rfl rfl rfl) $$ [Sff Bp0f HO Ts0f Psff Tr0f]
  · isplitr; · iexact HR
    isplitl [Sff]; · iexact Sff
    isplitl [Bp0f]; · iexact Bp0f
    isplitr; · iexact B0
    isplitl [HO]; · iexact HO
    isplitl [Ts0f]; · iexact Ts0f
    isplitl [Psff]; · iexact Psff
    iexact Tr0f
  iintro ⟨Cs0f, HO, Psff⟩
  iapply (wp_cpPbuf m c true (sh 6 c) 9 rfl (inp_of _ _ _ (off4_eq c 0)) rfl) $$ [It6 Pt V9]
  · isplitl [It6]; · iexact It6
    isplitl [Pt]; · iexact Pt
    iexact V9
  iintro L9
  iapply (wp_fin c _ _)
  iapply Hk
  isplitl [Cs0f]; · iexact Cs0f
  isplitl [HO]; · iexact HO
  isplitl [Psff]; · iexact Psff
  iexact L9

/-- Stretch 5 of the body. -/
theorem part5_wp (c : Dev nD) (v25 : BitVec 32) {Q : (PUnit) → sProp 𝕄} :
    iprop(recs m ∗ pbAny c false ∗ inO m c false (sh 2 c) ∗ sem0 c 10 ∗ Ow c (rem c 5) ∗
      fly c 9 N iprop(pb c true (part m true c (sh 6 c)) ∗ inO m c true (sh 6 c)) ∗ cred (tallyAt (sendC true false c) 0 N) ∗ pos (sendC true false c) 0 ∗
      cred (tallyAt (recvC true true c) 0 N) ∗ pos (recvC true true c) 0)
      ⊢ iprop((∀ r, (reached ER (barC (fr true c)) 1 ∗ pb c true (part m true c (sh 6 c)) ∗ inO m c true (sh 6 c) ∗ sem0 c 9 ∗ pb c false (part m false c (sh 2 c)) ∗
        inO m c false (sh 2 c) ∗ sem0 c 10 ∗ pos (sendC true false c) 1 ∗ sl c true false (src m true 0 c) ∗ Ow c (rem c 5) ∗ pos (recvC true true c) 1 ∗
        sl c true true (src m true 0 (fr true c))) -∗ Q r)
          -∗ wpc c (k0_part5 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v25) Q) := by
  rw [k0_part5_eq_skeleton]; unfold k0_part5_skel
  simp only [semSignalWord, semWaitWord, Prog.lift, Prog.bind_op, Prog.bind_ret, Prog.pure_eq_ret, wp_deviceId]
  iintro ⟨#HR, Pf, If2, V10, HO, L9, Cs0t, Pstf, Cr0t, Prtt⟩ Hk
  iapply (wp_cpPbuf m c false (sh 2 c) 10 rfl (inp_of _ _ _ (off5_eq c 0)) rfl) $$ [If2 Pf V10]
  · isplitl [If2]; · iexact If2
    isplitl [Pf]; · iexact Pf
    iexact V10
  iintro L10
  iapply (wp_own m c ((above_rem c 5 (by decide)).mono (by decide)) 9 rfl rfl N N_pos (N_pbuf true)) $$ [L9 HO]
  · isplitr; · iexact HR
    isplitl [L9]; · iexact L9
    iexact HO
  iintro ⟨Pt, It6, V9, HO⟩
  iapply (wp_own m c ((above_rem c 5 (by decide)).mono (by decide)) 10 rfl rfl N N_pos (N_pbuf false)) $$ [L10 HO]
  · isplitr; · iexact HR
    isplitl [L10]; · iexact L10
    iexact HO
  iintro ⟨Pf, If2, V10, HO⟩
  iapply (wp_sndWait m c true 0 (by decide) (s := false) rfl rfl (X := src m true 0 c) rfl ((above_rem c 5 (by decide)).mono (by decide)) rfl (N_slot true false)) $$ [Cs0t HO Pstf]
  · isplitr; · iexact HR
    isplitl [Cs0t]; · iexact Cs0t
    isplitl [HO]; · iexact HO
    iexact Pstf
  iintro ⟨HO, Pstf, Stf⟩
  iapply (wp_rcvWait m c true 0 (by decide) (s := true) rfl rfl (X := src m true 0 (fr true c)) rfl ((above_rem c 5 (by decide)).mono (by decide)) rfl (N_slot true true)) $$ [Cr0t HO Prtt]
  · isplitr; · iexact HR
    isplitl [Cr0t]; · iexact Cr0t
    isplitl [HO]; · iexact HO
    iexact Prtt
  iintro ⟨HO, Prtt, Stt, #R1t⟩
  iapply (wp_fin c _ _)
  iapply Hk
  isplitr; · iexact R1t
  isplitl [Pt]; · iexact Pt
  isplitl [It6]; · iexact It6
  isplitl [V9]; · iexact V9
  isplitl [Pf]; · iexact Pf
  isplitl [If2]; · iexact If2
  isplitl [V10]; · iexact V10
  isplitl [Pstf]; · iexact Pstf
  isplitl [Stf]; · iexact Stf
  isplitl [HO]; · iexact HO
  isplitl [Prtt]; · iexact Prtt
  iexact Stt

/-- Stretch 6 of the body. -/
theorem part6_wp (c : Dev nD) (v14 : BitVec 32) {Q : (BitVec 32) → sProp 𝕄} :
    iprop(recs m ∗ Ow c (rem c 5) ∗ cred (tallyAt (sendC false false c) 0 N) ∗ pos (sendC false false c) 0 ∗ cred (tallyAt (recvC false true c) 0 N) ∗
      pos (recvC false true c) 0 ∗ sl c true true (src m true 0 (fr true c)) ∗ pb c true (part m true c (sh 6 c)) ∗ pb c false (part m false c (sh 2 c)))
      ⊢ iprop((∀ r, (reached ER (barC (fr false c)) 1 ∗ pos (sendC false false c) 1 ∗ sl c false false (src m false 0 c) ∗ Ow c (rem c 5) ∗ pos (recvC false true c) 1 ∗
        pb c true (part m true c (sh 6 c)) ∗ sl c true true (src m true 1 c) ∗ pb c false (part m false c (sh 2 c)) ∗ sl c false true (src m false 1 c)) -∗ Q r)
          -∗ wpc c (k0_part6 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 v14) Q) := by
  rw [k0_part6_eq_skeleton]; unfold k0_part6_skel
  simp only [semSignalWord, semWaitWord, Prog.lift, Prog.bind_op, Prog.bind_ret, Prog.pure_eq_ret, wp_deviceId]
  iintro ⟨#HR, HO, Cs0f, Psff, Cr0f, Prft, Stt, Pt, Pf⟩ Hk
  iapply (wp_sndWait m c false 0 (by decide) (s := false) rfl rfl (X := src m false 0 c) rfl ((above_rem c 5 (by decide)).mono (by decide)) rfl (N_slot false false)) $$ [Cs0f HO Psff]
  · isplitr; · iexact HR
    isplitl [Cs0f]; · iexact Cs0f
    isplitl [HO]; · iexact HO
    iexact Psff
  iintro ⟨HO, Psff, Sff⟩
  iapply (wp_rcvWait m c false 0 (by decide) (s := true) rfl rfl (X := src m false 0 (fr false c)) rfl ((above_rem c 5 (by decide)).mono (by decide)) rfl (N_slot false true)) $$ [Cr0f HO Prft]
  · isplitr; · iexact HR
    isplitl [Cr0f]; · iexact Cr0f
    isplitl [HO]; · iexact HO
    iexact Prft
  iintro ⟨HO, Prft, Sft, #R1f⟩
  iapply (wp_ldSlot c true true rfl rfl) $$ Stt
  iintro Stt
  iapply (wp_ldP c true rfl off00) $$ Pt
  iintro Pt
  iapply (wp_ldSlot c true true rfl rfl) $$ Stt
  iintro Stt
  ihave Stt := (sl_any _ _ _ _) $$ Stt
  iapply (wp_stSlot c true true rfl rfl (Z := src m true 1 c) ((pay1_eq _ _).trans rfl)) $$ Stt
  iintro Stt
  iapply (wp_ldSlot c false true rfl rfl) $$ Sft
  iintro Sft
  iapply (wp_ldP c false rfl off00) $$ Pf
  iintro Pf
  iapply (wp_ldSlot c false true rfl rfl) $$ Sft
  iintro Sft
  ihave Sft := (sl_any _ _ _ _) $$ Sft
  iapply (wp_stSlot c false true rfl rfl (Z := src m false 1 c) ((pay2_eq _ _).trans rfl)) $$ Sft
  iintro Sft
  iapply (wp_fin c _ _)
  iapply Hk
  isplitr; · iexact R1f
  isplitl [Psff]; · iexact Psff
  isplitl [Sff]; · iexact Sff
  isplitl [HO]; · iexact HO
  isplitl [Prft]; · iexact Prft
  isplitl [Pt]; · iexact Pt
  isplitl [Stt]; · iexact Stt
  isplitl [Pf]; · iexact Pf
  iexact Sft

/-- Stretch 7 of the body. -/
theorem part7_wp (c : Dev nD) (v2 : BitVec 32) (v14 : BitVec 32) (v25 : BitVec 32) (v171 : BitVec 32) {Q : (Σ' (v196 : BitVec 32) (c4_i32_185 : BitVec 32), BitVec 32) → sProp 𝕄} :
    iprop(recs m ∗ reached ER (barC (fr true c)) 1 ∗ reached ER (barC (fr false c)) 1 ∗ sl c true false (src m true 0 c) ∗ pos (recvC true false c) 0 ∗
      Ow c (rem c 5) ∗ dutyTok ER (barC (fr true c)) 1 true ∗ sl c false false (src m false 0 c) ∗ pos (recvC false false c) 0 ∗
      dutyTok ER (barC (fr false c)) 1 false ∗ cred (tallyAt (barC c) 1 2) ∗ pos (barC c) 1 ∗ sl c true true (src m true 1 c) ∗ pos (sendC true true c) 0 ∗
      dutyTok ER (sendC true true c) 0 false ∗ dutyTok ER (recvC true false (go true c)) 0 false ∗ sl c false true (src m false 1 c) ∗
      pos (sendC false true c) 0 ∗ dutyTok ER (sendC false true c) 0 false ∗ dutyTok ER (recvC false false (go false c)) 0 false)
      ⊢ iprop((∀ r, (reached ER (barC c) 2 ∗ pos (recvC true false c) 0 ∗ pos (recvC false false c) 0 ∗ pos (barC c) 2 ∗ cred (tallyAt (sendC true true c) 0 N) ∗
        pos (sendC true true c) 0 ∗ cred (tallyAt (sendC false true c) 0 N) ∗ Ow c (rem c 4) ∗ pos (sendC false true c) 0) -∗ Q r)
          -∗ wpc c (k0_part7 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v14 v25 barA v171) Q) := by
  rw [k0_part7_eq_skeleton]; unfold k0_part7_skel
  simp only [semSignalWord, semWaitWord, Prog.lift, Prog.bind_op, Prog.bind_ret, Prog.pure_eq_ret, wp_deviceId]
  iintro ⟨#HR, #R1t, #R1f, Stf, Prtf, HO, Tb1t, Sff, Prff, Tb1f, Cb1, Pb, Stt, Pstt, Ts1t, Tr1t, Sft, Psft, Ts1f, Tr1f⟩ Hk
  ihave Stf := (sl_any _ _ _ _) $$ Stf
  iapply (wp_sig m c true 1 (by decide) rfl rfl (dev5_eq c) rfl rfl (O := ow c 1 1) rfl) $$ [HO Tb1t Stf Prtf]
  · isplitr; · iexact HR
    isplitl [HO]; · iexact HO
    isplitl [Tb1t]; · iexact Tb1t
    isplitr; · iexact R1t
    isplitl [Stf]; · iexact Stf
    iexact Prtf
  iintro ⟨HO, Prtf⟩
  ihave Sff := (sl_any _ _ _ _) $$ Sff
  iapply (wp_sig m c false 1 (by decide) rfl rfl (dev6_eq c) rfl rfl (O := ow c 1 2) rfl) $$ [HO Tb1f Sff Prff]
  · isplitr; · iexact HR
    isplitl [HO]; · iexact HO
    isplitl [Tb1f]; · iexact Tb1f
    isplitr; · iexact R1f
    isplitl [Sff]; · iexact Sff
    iexact Prff
  iintro ⟨HO, Prff⟩
  iapply (wp_barWait m c 1 (by decide) (above_ow c 1 (by decide)) rfl rfl) $$ [Cb1 HO Pb]
  · isplitr; · iexact HR
    isplitl [Cb1]; · iexact Cb1
    isplitl [HO]; · iexact HO
    iexact Pb
  iintro ⟨HO, Pb, #B1, Bp1t, Bp1f⟩
  iapply (wp_snd m c true 1 (by decide) (s := true) (s' := false) rfl rfl rfl rfl (O := ow c 1 3) rfl (dev7_eq c) rfl rfl rfl rfl) $$ [Stt Bp1t HO Ts1t Pstt Tr1t]
  · isplitr; · iexact HR
    isplitl [Stt]; · iexact Stt
    isplitl [Bp1t]; · iexact Bp1t
    isplitr; · iexact B1
    isplitl [HO]; · iexact HO
    isplitl [Ts1t]; · iexact Ts1t
    isplitl [Pstt]; · iexact Pstt
    iexact Tr1t
  iintro ⟨Cs1t, HO, Pstt⟩
  iapply (wp_snd m c false 1 (by decide) (s := true) (s' := false) rfl rfl rfl rfl (O := rem c 4) rfl (dev8_eq c) rfl rfl rfl rfl) $$ [Sft Bp1f HO Ts1f Psft Tr1f]
  · isplitr; · iexact HR
    isplitl [Sft]; · iexact Sft
    isplitl [Bp1f]; · iexact Bp1f
    isplitr; · iexact B1
    isplitl [HO]; · iexact HO
    isplitl [Ts1f]; · iexact Ts1f
    isplitl [Psft]; · iexact Psft
    iexact Tr1f
  iintro ⟨Cs1f, HO, Psft⟩
  iapply (wp_fin c _ _)
  iapply Hk
  isplitr; · iexact B1
  isplitl [Prtf]; · iexact Prtf
  isplitl [Prff]; · iexact Prff
  isplitl [Pb]; · iexact Pb
  isplitl [Cs1t]; · iexact Cs1t
  isplitl [Pstt]; · iexact Pstt
  isplitl [Cs1f]; · iexact Cs1f
  isplitl [HO]; · iexact HO
  iexact Psft

/-- Stretch 8 of the body. -/
theorem part8_wp (c : Dev nD) (v2 : BitVec 32) (v196 : BitVec 32) (c4_i32_185 : BitVec 32) (c0_i32_186 : BitVec 32) {Q : (PUnit) → sProp 𝕄} :
    iprop(recs m ∗ pb c true (part m true c (sh 6 c)) ∗ inO m c true (sh 5 c) ∗ sem0 c 9 ∗ pb c false (part m false c (sh 2 c)) ∗ inO m c false (sh 3 c) ∗
      sem0 c 10 ∗ Ow c (rem c 4))
      ⊢ iprop((∀ r, (pb c true (part m true c (sh 5 c)) ∗ inO m c true (sh 5 c) ∗ sem0 c 9 ∗ pb c false (part m false c (sh 3 c)) ∗ inO m c false (sh 3 c) ∗ sem0 c 10 ∗
        Ow c (rem c 4)) -∗ Q r)
          -∗ wpc c (k0_part8 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v196 c4_i32_185 c0_i32_186) Q) := by
  rw [k0_part8_eq_skeleton]; unfold k0_part8_skel
  simp only [semSignalWord, semWaitWord, Prog.lift, Prog.bind_op, Prog.bind_ret, Prog.pure_eq_ret, wp_deviceId]
  iintro ⟨#HR, Pt, It5, V9, Pf, If3, V10, HO⟩ Hk
  ihave Pt := (pb_any _ _ _) $$ Pt
  iapply (wp_cpPbuf m c true (sh 5 c) 9 rfl (inp_of _ _ _ (off4_eq c 1)) rfl) $$ [It5 Pt V9]
  · isplitl [It5]; · iexact It5
    isplitl [Pt]; · iexact Pt
    iexact V9
  iintro L9
  ihave Pf := (pb_any _ _ _) $$ Pf
  iapply (wp_cpPbuf m c false (sh 3 c) 10 rfl (inp_of _ _ _ (off5_eq c 1)) rfl) $$ [If3 Pf V10]
  · isplitl [If3]; · iexact If3
    isplitl [Pf]; · iexact Pf
    iexact V10
  iintro L10
  iapply (wp_own m c ((above_rem c 4 (by decide)).mono (by decide)) 9 rfl rfl N N_pos (N_pbuf true)) $$ [L9 HO]
  · isplitr; · iexact HR
    isplitl [L9]; · iexact L9
    iexact HO
  iintro ⟨Pt, It5, V9, HO⟩
  iapply (wp_own m c ((above_rem c 4 (by decide)).mono (by decide)) 10 rfl rfl N N_pos (N_pbuf false)) $$ [L10 HO]
  · isplitr; · iexact HR
    isplitl [L10]; · iexact L10
    iexact HO
  iintro ⟨Pf, If3, V10, HO⟩
  iapply (wp_fin c _ _)
  iapply Hk
  isplitl [Pt]; · iexact Pt
  isplitl [It5]; · iexact It5
  isplitl [V9]; · iexact V9
  isplitl [Pf]; · iexact Pf
  isplitl [If3]; · iexact If3
  isplitl [V10]; · iexact V10
  iexact HO

/-- Stretch 9 of the body. -/
theorem part9_wp (c : Dev nD) (v14 : BitVec 32) (v25 : BitVec 32) {Q : (PUnit) → sProp 𝕄} :
    iprop(recs m ∗ Ow c (rem c 4) ∗ cred (tallyAt (sendC true true c) 0 N) ∗ pos (sendC true true c) 0 ∗ cred (tallyAt (recvC true false c) 1 N) ∗
      pos (recvC true false c) 0 ∗ cred (tallyAt (sendC false true c) 0 N) ∗ pos (sendC false true c) 0)
      ⊢ iprop((∀ r, (reached ER (barC (fr true c)) 2 ∗ pos (sendC true true c) 1 ∗ sl c true true (src m true 1 c) ∗ pos (recvC true false c) 1 ∗
        sl c true false (src m true 1 (fr true c)) ∗ Ow c (rem c 4) ∗ pos (sendC false true c) 1 ∗ sl c false true (src m false 1 c)) -∗ Q r)
          -∗ wpc c (k0_part9 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 v14 v25) Q) := by
  rw [k0_part9_eq_skeleton]; unfold k0_part9_skel
  simp only [semSignalWord, semWaitWord, Prog.lift, Prog.bind_op, Prog.bind_ret, Prog.pure_eq_ret, wp_deviceId]
  iintro ⟨#HR, HO, Cs1t, Pstt, Cr1t, Prtf, Cs1f, Psft⟩ Hk
  iapply (wp_sndWait m c true 1 (by decide) (s := true) rfl rfl (X := src m true 1 c) rfl ((above_rem c 4 (by decide)).mono (by decide)) rfl (N_slot true true)) $$ [Cs1t HO Pstt]
  · isplitr; · iexact HR
    isplitl [Cs1t]; · iexact Cs1t
    isplitl [HO]; · iexact HO
    iexact Pstt
  iintro ⟨HO, Pstt, Stt⟩
  iapply (wp_rcvWait m c true 1 (by decide) (s := false) rfl rfl (X := src m true 1 (fr true c)) rfl ((above_rem c 4 (by decide)).mono (by decide)) rfl (N_slot true false)) $$ [Cr1t HO Prtf]
  · isplitr; · iexact HR
    isplitl [Cr1t]; · iexact Cr1t
    isplitl [HO]; · iexact HO
    iexact Prtf
  iintro ⟨HO, Prtf, Stf, #R2t⟩
  iapply (wp_sndWait m c false 1 (by decide) (s := true) rfl rfl (X := src m false 1 c) rfl ((above_rem c 4 (by decide)).mono (by decide)) rfl (N_slot false true)) $$ [Cs1f HO Psft]
  · isplitr; · iexact HR
    isplitl [Cs1f]; · iexact Cs1f
    isplitl [HO]; · iexact HO
    iexact Psft
  iintro ⟨HO, Psft, Sft⟩
  iapply (wp_fin c _ _)
  iapply Hk
  isplitr; · iexact R2t
  isplitl [Pstt]; · iexact Pstt
  isplitl [Stt]; · iexact Stt
  isplitl [Prtf]; · iexact Prtf
  isplitl [Stf]; · iexact Stf
  isplitl [HO]; · iexact HO
  isplitl [Psft]; · iexact Psft
  iexact Sft

/-- Stretch 10 of the body. -/
theorem part10_wp (c : Dev nD) (v14 : BitVec 32) (v25 : BitVec 32) {Q : (PUnit) → sProp 𝕄} :
    iprop(recs m ∗ reached ER (barC (fr true c)) 2 ∗ Ow c (rem c 4) ∗ cred (tallyAt (recvC false false c) 1 N) ∗ pos (recvC false false c) 0 ∗
      sl c true false (src m true 1 (fr true c)) ∗ pb c true (part m true c (sh 5 c)) ∗ pb c false (part m false c (sh 3 c)) ∗ sl c true true (src m true 1 c) ∗
      pos (recvC true true c) 1 ∗ dutyTok ER (barC (fr true c)) 2 true ∗ sl c false true (src m false 1 c) ∗ pos (recvC false true c) 1 ∗
      dutyTok ER (barC (fr false c)) 2 false ∗ cred (tallyAt (barC c) 2 2) ∗ pos (barC c) 2)
      ⊢ iprop((∀ r, (reached ER (barC (fr false c)) 2 ∗ reached ER (barC c) 3 ∗ pos (recvC false false c) 1 ∗ pb c true (part m true c (sh 5 c)) ∗
        sl c true false (src m true 2 c) ∗ pb c false (part m false c (sh 3 c)) ∗ sl c false false (src m false 2 c) ∗ pos (recvC true true c) 1 ∗
        pos (recvC false true c) 1 ∗ Ow c (ow c 2 2) ∗ pos (barC c) 3 ∗ barPay true 2 c ∗ barPay false 2 c) -∗ Q r)
          -∗ wpc c (k0_part10 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v14 v25 barA) Q) := by
  rw [k0_part10_eq_skeleton]; unfold k0_part10_skel
  simp only [semSignalWord, semWaitWord, Prog.lift, Prog.bind_op, Prog.bind_ret, Prog.pure_eq_ret, wp_deviceId]
  iintro ⟨#HR, #R2t, HO, Cr1f, Prff, Stf, Pt, Pf, Stt, Prtt, Tb2t, Sft, Prft, Tb2f, Cb2, Pb⟩ Hk
  iapply (wp_rcvWait m c false 1 (by decide) (s := false) rfl rfl (X := src m false 1 (fr false c)) rfl ((above_rem c 4 (by decide)).mono (by decide)) rfl (N_slot false false)) $$ [Cr1f HO Prff]
  · isplitr; · iexact HR
    isplitl [Cr1f]; · iexact Cr1f
    isplitl [HO]; · iexact HO
    iexact Prff
  iintro ⟨HO, Prff, Sff, #R2f⟩
  iapply (wp_ldSlot c true false rfl rfl) $$ Stf
  iintro Stf
  iapply (wp_ldP c true rfl off00) $$ Pt
  iintro Pt
  iapply (wp_ldSlot c true false rfl rfl) $$ Stf
  iintro Stf
  ihave Stf := (sl_any _ _ _ _) $$ Stf
  iapply (wp_stSlot c true false rfl rfl (Z := src m true 2 c) ((pay3_eq _ _).trans rfl)) $$ Stf
  iintro Stf
  iapply (wp_ldSlot c false false rfl rfl) $$ Sff
  iintro Sff
  iapply (wp_ldP c false rfl off00) $$ Pf
  iintro Pf
  iapply (wp_ldSlot c false false rfl rfl) $$ Sff
  iintro Sff
  ihave Sff := (sl_any _ _ _ _) $$ Sff
  iapply (wp_stSlot c false false rfl rfl (Z := src m false 2 c) ((pay4_eq _ _).trans rfl)) $$ Sff
  iintro Sff
  ihave Stt := (sl_any _ _ _ _) $$ Stt
  iapply (wp_sig m c true 2 (by decide) rfl rfl (dev9_eq c) rfl rfl (O := ow c 2 1) rfl) $$ [HO Tb2t Stt Prtt]
  · isplitr; · iexact HR
    isplitl [HO]; · iexact HO
    isplitl [Tb2t]; · iexact Tb2t
    isplitr; · iexact R2t
    isplitl [Stt]; · iexact Stt
    iexact Prtt
  iintro ⟨HO, Prtt⟩
  ihave Sft := (sl_any _ _ _ _) $$ Sft
  iapply (wp_sig m c false 2 (by decide) rfl rfl (dev10_eq c) rfl rfl (O := ow c 2 2) rfl) $$ [HO Tb2f Sft Prft]
  · isplitr; · iexact HR
    isplitl [HO]; · iexact HO
    isplitl [Tb2f]; · iexact Tb2f
    isplitr; · iexact R2f
    isplitl [Sft]; · iexact Sft
    iexact Prft
  iintro ⟨HO, Prft⟩
  iapply (wp_barWait m c 2 (by decide) (above_ow c 2 (by decide)) rfl rfl) $$ [Cb2 HO Pb]
  · isplitr; · iexact HR
    isplitl [Cb2]; · iexact Cb2
    isplitl [HO]; · iexact HO
    iexact Pb
  iintro ⟨HO, Pb, #B2, Bp2t, Bp2f⟩
  iapply (wp_fin c _ _)
  iapply Hk
  isplitr; · iexact R2f
  isplitr; · iexact B2
  isplitl [Prff]; · iexact Prff
  isplitl [Pt]; · iexact Pt
  isplitl [Stf]; · iexact Stf
  isplitl [Pf]; · iexact Pf
  isplitl [Sff]; · iexact Sff
  isplitl [Prtt]; · iexact Prtt
  isplitl [Prft]; · iexact Prft
  isplitl [HO]; · iexact HO
  isplitl [Pb]; · iexact Pb
  isplitl [Bp2t]; · iexact Bp2t
  iexact Bp2f

/-- Stretch 11 of the body. -/
theorem part11_wp (c : Dev nD) (v2 : BitVec 32) (v14 : BitVec 32) (v25 : BitVec 32) {Q : (Σ' (v307 : BitVec 32), BitVec 32) → sProp 𝕄} :
    iprop(recs m ∗ reached ER (barC c) 3 ∗ sl c true false (src m true 2 c) ∗ pos (sendC true false c) 1 ∗ barPay true 2 c ∗ Ow c (ow c 2 2) ∗
      dutyTok ER (sendC true false c) 1 false ∗ dutyTok ER (recvC true true (go true c)) 1 false ∗ sl c false false (src m false 2 c) ∗
      pos (sendC false false c) 1 ∗ barPay false 2 c ∗ dutyTok ER (sendC false false c) 1 false ∗ dutyTok ER (recvC false true (go false c)) 1 false)
      ⊢ iprop((∀ r, (cred (tallyAt (sendC true false c) 0 N) ∗ pos (sendC true false c) 1 ∗ cred (tallyAt (sendC false false c) 0 N) ∗ Ow c (rem c 3) ∗
        pos (sendC false false c) 1) -∗ Q r)
          -∗ wpc c (k0_part11 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v14 v25) Q) := by
  rw [k0_part11_eq_skeleton]; unfold k0_part11_skel
  simp only [semSignalWord, semWaitWord, Prog.lift, Prog.bind_op, Prog.bind_ret, Prog.pure_eq_ret, wp_deviceId]
  iintro ⟨#HR, #B2, Stf, Pstf, Bp2t, HO, Ts2t, Tr2t, Sff, Psff, Bp2f, Ts2f, Tr2f⟩ Hk
  iapply (wp_snd m c true 2 (by decide) (s := false) (s' := true) rfl rfl rfl rfl (O := ow c 2 3) rfl (dev11_eq c) rfl rfl rfl rfl) $$ [Stf Bp2t HO Ts2t Pstf Tr2t]
  · isplitr; · iexact HR
    isplitl [Stf]; · iexact Stf
    isplitl [Bp2t]; · iexact Bp2t
    isplitr; · iexact B2
    isplitl [HO]; · iexact HO
    isplitl [Ts2t]; · iexact Ts2t
    isplitl [Pstf]; · iexact Pstf
    iexact Tr2t
  iintro ⟨Cs2t, HO, Pstf⟩
  iapply (wp_snd m c false 2 (by decide) (s := false) (s' := true) rfl rfl rfl rfl (O := rem c 3) rfl (dev12_eq c) rfl rfl rfl rfl) $$ [Sff Bp2f HO Ts2f Psff Tr2f]
  · isplitr; · iexact HR
    isplitl [Sff]; · iexact Sff
    isplitl [Bp2f]; · iexact Bp2f
    isplitr; · iexact B2
    isplitl [HO]; · iexact HO
    isplitl [Ts2f]; · iexact Ts2f
    isplitl [Psff]; · iexact Psff
    iexact Tr2f
  iintro ⟨Cs2f, HO, Psff⟩
  iapply (wp_fin c _ _)
  iapply Hk
  isplitl [Cs2t]; · iexact Cs2t
  isplitl [Pstf]; · iexact Pstf
  isplitl [Cs2f]; · iexact Cs2f
  isplitl [HO]; · iexact HO
  iexact Psff

/-- Stretch 12 of the body. -/
theorem part12_wp (c : Dev nD) (v2 : BitVec 32) (v307 : BitVec 32) (c2_i32_300 : BitVec 32) {Q : (PUnit) → sProp 𝕄} :
    iprop(recs m ∗ pb c true (part m true c (sh 5 c)) ∗ inO m c true (sh 4 c) ∗ sem0 c 9 ∗ pb c false (part m false c (sh 3 c)) ∗ inO m c false (sh 4 c) ∗
      sem0 c 10 ∗ Ow c (rem c 3))
      ⊢ iprop((∀ r, (pb c true (part m true c (sh 4 c)) ∗ inO m c true (sh 4 c) ∗ sem0 c 9 ∗ pb c false (part m false c (sh 4 c)) ∗ inO m c false (sh 4 c) ∗ sem0 c 10 ∗
        Ow c (rem c 3)) -∗ Q r)
          -∗ wpc c (k0_part12 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v307 c2_i32_300) Q) := by
  rw [k0_part12_eq_skeleton]; unfold k0_part12_skel
  simp only [semSignalWord, semWaitWord, Prog.lift, Prog.bind_op, Prog.bind_ret, Prog.pure_eq_ret, wp_deviceId]
  iintro ⟨#HR, Pt, It4, V9, Pf, If4, V10, HO⟩ Hk
  ihave Pt := (pb_any _ _ _) $$ Pt
  iapply (wp_cpPbuf m c true (sh 4 c) 9 rfl (inp_of _ _ _ (off4_eq c 2)) rfl) $$ [It4 Pt V9]
  · isplitl [It4]; · iexact It4
    isplitl [Pt]; · iexact Pt
    iexact V9
  iintro L9
  ihave Pf := (pb_any _ _ _) $$ Pf
  iapply (wp_cpPbuf m c false (sh 4 c) 10 rfl (inp_of _ _ _ (off5_eq c 2)) rfl) $$ [If4 Pf V10]
  · isplitl [If4]; · iexact If4
    isplitl [Pf]; · iexact Pf
    iexact V10
  iintro L10
  iapply (wp_own m c ((above_rem c 3 (by decide)).mono (by decide)) 9 rfl rfl N N_pos (N_pbuf true)) $$ [L9 HO]
  · isplitr; · iexact HR
    isplitl [L9]; · iexact L9
    iexact HO
  iintro ⟨Pt, It4, V9, HO⟩
  iapply (wp_own m c ((above_rem c 3 (by decide)).mono (by decide)) 10 rfl rfl N N_pos (N_pbuf false)) $$ [L10 HO]
  · isplitr; · iexact HR
    isplitl [L10]; · iexact L10
    iexact HO
  iintro ⟨Pf, If4, V10, HO⟩
  iapply (wp_fin c _ _)
  iapply Hk
  isplitl [Pt]; · iexact Pt
  isplitl [It4]; · iexact It4
  isplitl [V9]; · iexact V9
  isplitl [Pf]; · iexact Pf
  isplitl [If4]; · iexact If4
  isplitl [V10]; · iexact V10
  iexact HO

/-- Stretch 13 of the body. -/
theorem part13_wp (c : Dev nD) (v14 : BitVec 32) (v25 : BitVec 32) {Q : (FVec F S256x2048 .f32) → sProp 𝕄} :
    iprop(recs m ∗ Ow c (rem c 3) ∗ cred (tallyAt (sendC true false c) 0 N) ∗ pos (sendC true false c) 1 ∗ cred (tallyAt (recvC true true c) 2 N) ∗
      pos (recvC true true c) 1 ∗ cred (tallyAt (sendC false false c) 0 N) ∗ pos (sendC false false c) 1 ∗ cred (tallyAt (recvC false true c) 2 N) ∗
      pos (recvC false true c) 1)
      ⊢ iprop(((reached ER (barC (fr true c)) 3 ∗ reached ER (barC (fr false c)) 3 ∗ pos (sendC true false c) 2 ∗ sl c true false (src m true 2 c) ∗
        pos (recvC true true c) 2 ∗ pos (sendC false false c) 2 ∗ sl c false false (src m false 2 c) ∗ Ow c (rem c 3) ∗ pos (recvC false true c) 2 ∗
        sl c false true (src m false 2 (fr false c)) ∗ sl c true true (src m true 2 (fr true c))) -∗ Q (src m true 2 (fr true c)))
          -∗ wpc c (k0_part13 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 v14 v25) Q) := by
  rw [k0_part13_eq_skeleton]; unfold k0_part13_skel
  simp only [semSignalWord, semWaitWord, Prog.lift, Prog.bind_op, Prog.bind_ret, Prog.pure_eq_ret, wp_deviceId]
  iintro ⟨#HR, HO, Cs2t, Pstf, Cr2t, Prtt, Cs2f, Psff, Cr2f, Prft⟩ Hk
  iapply (wp_sndWait m c true 2 (by decide) (s := false) rfl rfl (X := src m true 2 c) rfl ((above_rem c 3 (by decide)).mono (by decide)) rfl (N_slot true false)) $$ [Cs2t HO Pstf]
  · isplitr; · iexact HR
    isplitl [Cs2t]; · iexact Cs2t
    isplitl [HO]; · iexact HO
    iexact Pstf
  iintro ⟨HO, Pstf, Stf⟩
  iapply (wp_rcvWait m c true 2 (by decide) (s := true) rfl rfl (X := src m true 2 (fr true c)) rfl ((above_rem c 3 (by decide)).mono (by decide)) rfl (N_slot true true)) $$ [Cr2t HO Prtt]
  · isplitr; · iexact HR
    isplitl [Cr2t]; · iexact Cr2t
    isplitl [HO]; · iexact HO
    iexact Prtt
  iintro ⟨HO, Prtt, Stt, #R3t⟩
  iapply (wp_sndWait m c false 2 (by decide) (s := false) rfl rfl (X := src m false 2 c) rfl ((above_rem c 3 (by decide)).mono (by decide)) rfl (N_slot false false)) $$ [Cs2f HO Psff]
  · isplitr; · iexact HR
    isplitl [Cs2f]; · iexact Cs2f
    isplitl [HO]; · iexact HO
    iexact Psff
  iintro ⟨HO, Psff, Sff⟩
  iapply (wp_rcvWait m c false 2 (by decide) (s := true) rfl rfl (X := src m false 2 (fr false c)) rfl ((above_rem c 3 (by decide)).mono (by decide)) rfl (N_slot false true)) $$ [Cr2f HO Prft]
  · isplitr; · iexact HR
    isplitl [Cr2f]; · iexact Cr2f
    isplitl [HO]; · iexact HO
    iexact Prft
  iintro ⟨HO, Prft, Sft, #R3f⟩
  iapply (wp_ldSlot c true true rfl rfl) $$ Stt
  iintro Stt
  rw [pay5_eq]
  iapply (wp_fin c _ _)
  iapply Hk
  isplitr; · iexact R3t
  isplitr; · iexact R3f
  isplitl [Pstf]; · iexact Pstf
  isplitl [Stf]; · iexact Stf
  isplitl [Prtt]; · iexact Prtt
  isplitl [Psff]; · iexact Psff
  isplitl [Sff]; · iexact Sff
  isplitl [HO]; · iexact HO
  isplitl [Prft]; · iexact Prft
  isplitl [Sft]; · iexact Sft
  iexact Stt

/-- Stretch 14 of the body. -/
theorem part14_wp (c : Dev nD) {Q : (FVec F S256x2048 .f32) → sProp 𝕄} :
    iprop(recs m ∗ pb c true (part m true c (sh 4 c)) ∗ sl c true true (src m true 2 (fr true c)) ∗ sl c false true (src m false 2 (fr false c)) ∗
      pb c false (part m false c (sh 4 c)) ∗ Ow c (rem c 3) ∗ fly c 11 NR iprop(rb m c ∗ resO m c) ∗ gb m c)
      ⊢ iprop(((pb c true (part m true c (sh 4 c)) ∗ pb c false (part m false c (sh 4 c)) ∗ sl c false true (acc m false 3 c) ∗ resO m c ∗ sem0 c 11 ∗ Ow c (rem c 3) ∗
        sl c true true (acc m true 3 c) ∗ rb m c ∗ gb m c) -∗ Q (fin m true c))
          -∗ wpc c (k0_part14 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c (src m true 2 (fr true c))) Q) := by
  rw [k0_part14_eq_skeleton]; unfold k0_part14_skel
  simp only [semSignalWord, semWaitWord, Prog.lift, Prog.bind_op, Prog.bind_ret, Prog.pure_eq_ret, wp_deviceId]
  iintro ⟨#HR, Pt, Stt, Sft, Pf, HO, L11, GB⟩ Hk
  iapply (wp_ldP c true rfl off00) $$ Pt
  iintro Pt
  iapply (wp_ldSlot c true true rfl rfl) $$ Stt
  iintro Stt
  ihave Stt := (sl_any _ _ _ _) $$ Stt
  iapply (wp_stSlot c true true rfl rfl (Z := acc m true 3 c) ((pay6_eq _ _).trans rfl)) $$ Stt
  iintro Stt
  iapply (wp_ldSlot c false true rfl rfl) $$ Sft
  iintro Sft
  iapply (wp_ldP c false rfl off00) $$ Pf
  iintro Pf
  iapply (wp_ldSlot c false true rfl rfl) $$ Sft
  iintro Sft
  ihave Sft := (sl_any _ _ _ _) $$ Sft
  iapply (wp_stSlot c false true rfl rfl (Z := acc m false 3 c) ((pay7_eq _ _).trans rfl)) $$ Sft
  iintro Sft
  iapply (wp_own m c ((above_rem c 3 (by decide)).mono (by decide)) 11 rfl rfl NR (View.dmaCredit_pos _ (by decide)) N_res) $$ [L11 HO]
  · isplitr; · iexact HR
    isplitl [L11]; · iexact L11
    iexact HO
  iintro ⟨RB, RO, V11, HO⟩
  iapply (wp_ldSlot c true true rfl rfl) $$ Stt
  iintro Stt
  iapply (wp_ldR m c true rfl rfl) $$ RB
  iintro RB
  iapply (wp_ldG m c rfl off0) $$ GB
  iintro GB
  rw [pay8_eq]
  rw [show norm (acc m true 3 c) (rhalf m true c) (gam m c) = fin m true c from rfl]
  iapply (wp_fin c _ _)
  iapply Hk
  isplitl [Pt]; · iexact Pt
  isplitl [Pf]; · iexact Pf
  isplitl [Sft]; · iexact Sft
  isplitl [RO]; · iexact RO
  isplitl [V11]; · iexact V11
  isplitl [HO]; · iexact HO
  isplitl [Stt]; · iexact Stt
  isplitl [RB]; · iexact RB
  iexact GB

/-- Stretch 15 of the body. -/
theorem part15_wp (c : Dev nD) (v2 : BitVec 32) {Q : (PUnit) → sProp 𝕄} :
    iprop(recs m ∗ sl c true false (src m true 2 c) ∗ sl c false true (acc m false 3 c) ∗ rb m c ∗ gb m c ∗ sl c false false (src m false 2 c) ∗ outAny c true c ∗
      sem0 c 12)
      ⊢ iprop((∀ r, (sl c false true (acc m false 3 c) ∗ rb m c ∗ gb m c ∗ sl c false false (fin m false c) ∗ outs m c false c c 1 0) -∗ Q r)
          -∗ wpc c (k0_part15 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 (fin m true c)) Q) := by
  rw [k0_part15_eq_skeleton]; unfold k0_part15_skel
  simp only [semSignalWord, semWaitWord, Prog.lift, Prog.bind_op, Prog.bind_ret, Prog.pure_eq_ret, wp_deviceId]
  iintro ⟨#HR, Stf, Sft, RB, GB, Sff, Ot0, V12⟩ Hk
  ihave Stf := (sl_any _ _ _ _) $$ Stf
  iapply (wp_ldAny c true false rfl rfl (fun _ => rfl)) $$ Stf
  iintro Stf
  iapply (wp_stSlot c true false rfl rfl (Z := fin m true c) (pay9_eq _)) $$ Stf
  iintro Stf
  iapply (wp_ldSlot c false true rfl rfl) $$ Sft
  iintro Sft
  iapply (wp_ldR m c false rfl rfl) $$ RB
  iintro RB
  iapply (wp_ldG m c rfl off0) $$ GB
  iintro GB
  ihave Sff := (sl_any _ _ _ _) $$ Sff
  iapply (wp_ldAny c false false rfl rfl (fun _ => rfl)) $$ Sff
  iintro Sff
  iapply (wp_stSlot c false false rfl rfl (Z := fin m false c) (pay10_eq _ _ _)) $$ Sff
  iintro Sff
  iapply (wp_out0 m c false c c rfl rfl (out_of _ _ _ (out6 c)) rfl) $$ [Stf Ot0 V12]
  · isplitl [Stf]; · iexact Stf
    isplitl [Ot0]; · iexact Ot0
    iexact V12
  iintro LO
  iapply (wp_fin c _ _)
  iapply Hk
  isplitl [Sft]; · iexact Sft
  isplitl [RB]; · iexact RB
  isplitl [GB]; · iexact GB
  isplitl [Sff]; · iexact Sff
  iexact LO

/-- Stretch 16 of the body. -/
theorem part16_wp (c : Dev nD) (v14 : BitVec 32) (v25 : BitVec 32) {Q : (BitVec 32) → sProp 𝕄} :
    iprop(recs m ∗ reached ER (barC (fr true c)) 3 ∗ reached ER (barC (fr false c)) 3 ∗ sl c false false (fin m false c) ∗ outAny c false c ∗
      outs m c false c c 1 0 ∗ Ow c (rem c 3) ∗ sl c true true (acc m true 3 c) ∗ pos (recvC true true c) 2 ∗ dutyTok ER (barC (fr true c)) 3 true ∗
      sl c false true (acc m false 3 c) ∗ pos (recvC false true c) 2 ∗ dutyTok ER (barC (fr false c)) 3 false ∗ cred (tallyAt (barC c) 3 2) ∗ pos (barC c) 3 ∗
      pos (sendC true false c) 2 ∗ dutyTok ER (sendC true false c) 2 false ∗ dutyTok ER (recvC true true (go true c)) 2 false)
      ⊢ iprop((∀ r, (reached ER (barC c) 4 ∗ outO m c true c ∗ outO m c false c ∗ sem0 c 12 ∗ sl c false false (fin m false c) ∗ pos (recvC true true c) 2 ∗
        pos (recvC false true c) 2 ∗ pos (barC c) 4 ∗ barPay false 3 c ∗ cred (tallyAt (sendC true false c) 0 N) ∗ Ow c (ow c 3 3) ∗ pos (sendC true false c) 2) -∗ Q r)
          -∗ wpc c (k0_part16 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v14 v25 barA) Q) := by
  rw [k0_part16_eq_skeleton]; unfold k0_part16_skel
  simp only [semSignalWord, semWaitWord, Prog.lift, Prog.bind_op, Prog.bind_ret, Prog.pure_eq_ret, wp_deviceId]
  iintro ⟨#HR, #R3t, #R3f, Sff, Of0, LO, HO, Stt, Prtt, Tb3t, Sft, Prft, Tb3f, Cb3, Pb, Pstf, Ts3t, Tr3t⟩ Hk
  iapply (wp_out1 m c false c c rfl rfl (out_of _ _ _ (out7 c)) rfl) $$ [Sff Of0 LO]
  · isplitl [Sff]; · iexact Sff
    isplitl [Of0]; · iexact Of0
    iexact LO
  iintro LO
  iapply (wp_outWait0 m c ((above_rem c 3 (by decide)).mono (by decide)) false c c rfl true c (out_of _ _ _ (out6 c))) $$ [LO HO]
  · isplitr; · iexact HR
    isplitl [LO]; · iexact LO
    iexact HO
  iintro ⟨LO, HO⟩
  iapply (wp_outWait1 m c ((above_rem c 3 (by decide)).mono (by decide)) false c c rfl false c (out_of _ _ _ (out7 c))) $$ [LO HO]
  · isplitr; · iexact HR
    isplitl [LO]; · iexact LO
    iexact HO
  iintro ⟨Ot0, Stf, Of0, Sff, V12, HO⟩
  ihave Stt := (sl_any _ _ _ _) $$ Stt
  iapply (wp_sig m c true 3 (by decide) rfl rfl (dev13_eq c) rfl rfl (O := ow c 3 1) rfl) $$ [HO Tb3t Stt Prtt]
  · isplitr; · iexact HR
    isplitl [HO]; · iexact HO
    isplitl [Tb3t]; · iexact Tb3t
    isplitr; · iexact R3t
    isplitl [Stt]; · iexact Stt
    iexact Prtt
  iintro ⟨HO, Prtt⟩
  ihave Sft := (sl_any _ _ _ _) $$ Sft
  iapply (wp_sig m c false 3 (by decide) rfl rfl (dev14_eq c) rfl rfl (O := ow c 3 2) rfl) $$ [HO Tb3f Sft Prft]
  · isplitr; · iexact HR
    isplitl [HO]; · iexact HO
    isplitl [Tb3f]; · iexact Tb3f
    isplitr; · iexact R3f
    isplitl [Sft]; · iexact Sft
    iexact Prft
  iintro ⟨HO, Prft⟩
  iapply (wp_barWait m c 3 (by decide) (above_ow c 3 (by decide)) rfl rfl) $$ [Cb3 HO Pb]
  · isplitr; · iexact HR
    isplitl [Cb3]; · iexact Cb3
    isplitl [HO]; · iexact HO
    iexact Pb
  iintro ⟨HO, Pb, #B3, Bp3t, Bp3f⟩
  iapply (wp_snd m c true 3 (by decide) (s := false) (s' := true) rfl rfl rfl rfl (O := ow c 3 3) rfl (dev15_eq c) rfl rfl rfl rfl) $$ [Stf Bp3t HO Ts3t Pstf Tr3t]
  · isplitr; · iexact HR
    isplitl [Stf]; · iexact Stf
    isplitl [Bp3t]; · iexact Bp3t
    isplitr; · iexact B3
    isplitl [HO]; · iexact HO
    isplitl [Ts3t]; · iexact Ts3t
    isplitl [Pstf]; · iexact Pstf
    iexact Tr3t
  iintro ⟨Cs3t, HO, Pstf⟩
  iapply (wp_fin c _ _)
  iapply Hk
  isplitr; · iexact B3
  isplitl [Ot0]; · iexact Ot0
  isplitl [Of0]; · iexact Of0
  isplitl [V12]; · iexact V12
  isplitl [Sff]; · iexact Sff
  isplitl [Prtt]; · iexact Prtt
  isplitl [Prft]; · iexact Prft
  isplitl [Pb]; · iexact Pb
  isplitl [Bp3f]; · iexact Bp3f
  isplitl [Cs3t]; · iexact Cs3t
  isplitl [HO]; · iexact HO
  iexact Pstf

/-- Stretch 17 of the body. -/
theorem part17_wp (c : Dev nD) (v25 : BitVec 32) (v447 : BitVec 32) {Q : (PUnit) → sProp 𝕄} :
    iprop(recs m ∗ reached ER (barC c) 4 ∗ sl c false false (fin m false c) ∗ pos (sendC false false c) 2 ∗ barPay false 3 c ∗ Ow c (ow c 3 3) ∗
      dutyTok ER (sendC false false c) 2 false ∗ dutyTok ER (recvC false true (go false c)) 2 false ∗ cred (tallyAt (sendC true false c) 0 N) ∗
      pos (sendC true false c) 2 ∗ cred (tallyAt (recvC true true c) 3 N) ∗ pos (recvC true true c) 2)
      ⊢ iprop((∀ r, (reached ER (barC (fr true c)) 4 ∗ cred (tallyAt (sendC false false c) 0 N) ∗ pos (sendC false false c) 2 ∗ pos (sendC true false c) 3 ∗
        sl c true false (src m true 3 c) ∗ Ow c (rem c 2) ∗ pos (recvC true true c) 3 ∗ sl c true true (src m true 4 c)) -∗ Q r)
          -∗ wpc c (k0_part17 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v25 v447) Q) := by
  rw [k0_part17_eq_skeleton]; unfold k0_part17_skel
  simp only [semSignalWord, semWaitWord, Prog.lift, Prog.bind_op, Prog.bind_ret, Prog.pure_eq_ret, wp_deviceId]
  iintro ⟨#HR, #B3, Sff, Psff, Bp3f, HO, Ts3f, Tr3f, Cs3t, Pstf, Cr3t, Prtt⟩ Hk
  iapply (wp_snd m c false 3 (by decide) (s := false) (s' := true) rfl rfl rfl rfl (O := rem c 2) rfl (dev16_eq c) rfl rfl rfl rfl) $$ [Sff Bp3f HO Ts3f Psff Tr3f]
  · isplitr; · iexact HR
    isplitl [Sff]; · iexact Sff
    isplitl [Bp3f]; · iexact Bp3f
    isplitr; · iexact B3
    isplitl [HO]; · iexact HO
    isplitl [Ts3f]; · iexact Ts3f
    isplitl [Psff]; · iexact Psff
    iexact Tr3f
  iintro ⟨Cs3f, HO, Psff⟩
  iapply (wp_sndWait m c true 3 (by decide) (s := false) rfl rfl (X := src m true 3 c) rfl ((above_rem c 2 (by decide)).mono (by decide)) rfl (N_slot true false)) $$ [Cs3t HO Pstf]
  · isplitr; · iexact HR
    isplitl [Cs3t]; · iexact Cs3t
    isplitl [HO]; · iexact HO
    iexact Pstf
  iintro ⟨HO, Pstf, Stf⟩
  iapply (wp_rcvWait m c true 3 (by decide) (s := true) rfl rfl (X := src m true 4 c) rfl ((above_rem c 2 (by decide)).mono (by decide)) rfl (N_slot true true)) $$ [Cr3t HO Prtt]
  · isplitr; · iexact HR
    isplitl [Cr3t]; · iexact Cr3t
    isplitl [HO]; · iexact HO
    iexact Prtt
  iintro ⟨HO, Prtt, Stt, #R4t⟩
  iapply (wp_fin c _ _)
  iapply Hk
  isplitr; · iexact R4t
  isplitl [Cs3f]; · iexact Cs3f
  isplitl [Psff]; · iexact Psff
  isplitl [Pstf]; · iexact Pstf
  isplitl [Stf]; · iexact Stf
  isplitl [HO]; · iexact HO
  isplitl [Prtt]; · iexact Prtt
  iexact Stt

/-- Stretch 18 of the body. -/
theorem part18_wp (c : Dev nD) (v2 : BitVec 32) (v14 : BitVec 32) {Q : (Σ' (v496 : BitVec 32) (v500 : BitVec 32) (v501 : BitVec 32) (v502 : BitVec 1) (v503 : BitVec 1), BitVec 32) → sProp 𝕄} :
    iprop(recs m ∗ Ow c (rem c 2) ∗ cred (tallyAt (sendC false false c) 0 N) ∗ pos (sendC false false c) 2 ∗ cred (tallyAt (recvC false true c) 3 N) ∗
      pos (recvC false true c) 2)
      ⊢ iprop((∀ r, (reached ER (barC (fr false c)) 4 ∗ pos (sendC false false c) 3 ∗ sl c false false (src m false 3 c) ∗ Ow c (rem c 2) ∗ pos (recvC false true c) 3 ∗
        sl c false true (src m false 4 c)) -∗ Q r)
          -∗ wpc c (k0_part18 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 v2 v14) Q) := by
  rw [k0_part18_eq_skeleton]; unfold k0_part18_skel
  simp only [semSignalWord, semWaitWord, Prog.lift, Prog.bind_op, Prog.bind_ret, Prog.pure_eq_ret, wp_deviceId]
  iintro ⟨#HR, HO, Cs3f, Psff, Cr3f, Prft⟩ Hk
  iapply (wp_sndWait m c false 3 (by decide) (s := false) rfl rfl (X := src m false 3 c) rfl ((above_rem c 2 (by decide)).mono (by decide)) rfl (N_slot false false)) $$ [Cs3f HO Psff]
  · isplitr; · iexact HR
    isplitl [Cs3f]; · iexact Cs3f
    isplitl [HO]; · iexact HO
    iexact Psff
  iintro ⟨HO, Psff, Sff⟩
  iapply (wp_rcvWait m c false 3 (by decide) (s := true) rfl rfl (X := src m false 4 c) rfl ((above_rem c 2 (by decide)).mono (by decide)) rfl (N_slot false true)) $$ [Cr3f HO Prft]
  · isplitr; · iexact HR
    isplitl [Cr3f]; · iexact Cr3f
    isplitl [HO]; · iexact HO
    iexact Prft
  iintro ⟨HO, Prft, Sft, #R4f⟩
  iapply (wp_fin c _ _)
  iapply Hk
  isplitr; · iexact R4f
  isplitl [Psff]; · iexact Psff
  isplitl [Sff]; · iexact Sff
  isplitl [HO]; · iexact HO
  isplitl [Prft]; · iexact Prft
  iexact Sft

/-- Stretch 19 of the body. -/
theorem part19_wp (c : Dev nD) (v14 : BitVec 32) (v25 : BitVec 32) (v496 : BitVec 32) (v500 : BitVec 32) (v501 : BitVec 32) (v502 : BitVec 1) (v503 : BitVec 1) (c0_i32_496 : BitVec 32) {Q : (PUnit) → sProp 𝕄} :
    iprop(recs m ∗ reached ER (barC (fr true c)) 4 ∗ reached ER (barC (fr false c)) 4 ∗ sl c true true (src m true 4 c) ∗ outAny c true (fr true c) ∗ sem0 c 12 ∗
      sl c false true (src m false 4 c) ∗ outAny c false (fr false c) ∗ Ow c (rem c 2) ∗ sl c true false (src m true 3 c) ∗ pos (recvC true false c) 1 ∗
      dutyTok ER (barC (fr true c)) 4 true ∗ sl c false false (src m false 3 c) ∗ pos (recvC false false c) 1 ∗ dutyTok ER (barC (fr false c)) 4 false ∗
      cred (tallyAt (barC c) 4 2) ∗ pos (barC c) 4)
      ⊢ iprop((∀ r, (reached ER (barC c) 5 ∗ outO m c true (fr true c) ∗ outO m c false (fr false c) ∗ sem0 c 12 ∗ sl c true true (fin m true (fr true c)) ∗
        sl c false true (fin m false (fr false c)) ∗ pos (recvC true false c) 1 ∗ pos (recvC false false c) 1 ∗ Ow c (ow c 4 2) ∗ pos (barC c) 5 ∗
        barPay true 4 c ∗ barPay false 4 c) -∗ Q r)
          -∗ wpc c (k0_part19 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v14 v25 barA v496 v500 v501 v502 v503 c0_i32_496) Q) := by
  rw [k0_part19_eq_skeleton]; unfold k0_part19_skel
  simp only [semSignalWord, semWaitWord, Prog.lift, Prog.bind_op, Prog.bind_ret, Prog.pure_eq_ret, wp_deviceId]
  iintro ⟨#HR, #R4t, #R4f, Stt, Ot1, V12, Sft, Of1, HO, Stf, Prtf, Tb4t, Sff, Prff, Tb4f, Cb4, Pb⟩ Hk
  iapply (wp_out0 m c true (fr true c) (fr false c) rfl rfl (out_of _ _ _ (out8_0 c)) rfl) $$ [Stt Ot1 V12]
  · isplitl [Stt]; · iexact Stt
    isplitl [Ot1]; · iexact Ot1
    iexact V12
  iintro LO
  iapply (wp_out1 m c true (fr true c) (fr false c) rfl rfl (out_of _ _ _ (out9_0 c)) rfl) $$ [Sft Of1 LO]
  · isplitl [Sft]; · iexact Sft
    isplitl [Of1]; · iexact Of1
    iexact LO
  iintro LO
  iapply (wp_outWait0 m c ((above_rem c 2 (by decide)).mono (by decide)) true (fr true c) (fr false c) rfl true (fr true c) (out_of _ _ _ (out8_0 c))) $$ [LO HO]
  · isplitr; · iexact HR
    isplitl [LO]; · iexact LO
    iexact HO
  iintro ⟨LO, HO⟩
  iapply (wp_outWait1 m c ((above_rem c 2 (by decide)).mono (by decide)) true (fr true c) (fr false c) rfl false (fr false c) (out_of _ _ _ (out9_0 c))) $$ [LO HO]
  · isplitr; · iexact HR
    isplitl [LO]; · iexact LO
    iexact HO
  iintro ⟨Ot1, Stt, Of1, Sft, V12, HO⟩
  ihave Stf := (sl_any _ _ _ _) $$ Stf
  iapply (wp_sig m c true 4 (by decide) rfl rfl (dev17_eq c) rfl rfl (O := ow c 4 1) rfl) $$ [HO Tb4t Stf Prtf]
  · isplitr; · iexact HR
    isplitl [HO]; · iexact HO
    isplitl [Tb4t]; · iexact Tb4t
    isplitr; · iexact R4t
    isplitl [Stf]; · iexact Stf
    iexact Prtf
  iintro ⟨HO, Prtf⟩
  ihave Sff := (sl_any _ _ _ _) $$ Sff
  iapply (wp_sig m c false 4 (by decide) rfl rfl (dev18_eq c) rfl rfl (O := ow c 4 2) rfl) $$ [HO Tb4f Sff Prff]
  · isplitr; · iexact HR
    isplitl [HO]; · iexact HO
    isplitl [Tb4f]; · iexact Tb4f
    isplitr; · iexact R4f
    isplitl [Sff]; · iexact Sff
    iexact Prff
  iintro ⟨HO, Prff⟩
  iapply (wp_barWait m c 4 (by decide) (above_ow c 4 (by decide)) rfl rfl) $$ [Cb4 HO Pb]
  · isplitr; · iexact HR
    isplitl [Cb4]; · iexact Cb4
    isplitl [HO]; · iexact HO
    iexact Pb
  iintro ⟨HO, Pb, #B4, Bp4t, Bp4f⟩
  iapply (wp_fin c _ _)
  iapply Hk
  isplitr; · iexact B4
  isplitl [Ot1]; · iexact Ot1
  isplitl [Of1]; · iexact Of1
  isplitl [V12]; · iexact V12
  isplitl [Stt]; · iexact Stt
  isplitl [Sft]; · iexact Sft
  isplitl [Prtf]; · iexact Prtf
  isplitl [Prff]; · iexact Prff
  isplitl [HO]; · iexact HO
  isplitl [Pb]; · iexact Pb
  isplitl [Bp4t]; · iexact Bp4t
  iexact Bp4f

/-- Stretch 20 of the body. -/
theorem part20_wp (c : Dev nD) (v14 : BitVec 32) (v25 : BitVec 32) {Q : (PUnit) → sProp 𝕄} :
    iprop(recs m ∗ reached ER (barC c) 5 ∗ sl c true true (fin m true (fr true c)) ∗ pos (sendC true true c) 1 ∗ barPay true 4 c ∗ Ow c (ow c 4 2) ∗
      dutyTok ER (sendC true true c) 1 false ∗ dutyTok ER (recvC true false (go true c)) 1 false ∗ sl c false true (fin m false (fr false c)) ∗
      pos (sendC false true c) 1 ∗ barPay false 4 c ∗ dutyTok ER (sendC false true c) 1 false ∗ dutyTok ER (recvC false false (go false c)) 1 false)
      ⊢ iprop((∀ r, (cred (tallyAt (sendC false true c) 0 N) ∗ pos (sendC false true c) 1 ∗ Ow c (rem c 1) ∗ pos (sendC true true c) 2 ∗ sl c true true (src m true 4 c)) -∗ Q r)
          -∗ wpc c (k0_part20 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v14 v25) Q) := by
  rw [k0_part20_eq_skeleton]; unfold k0_part20_skel
  simp only [semSignalWord, semWaitWord, Prog.lift, Prog.bind_op, Prog.bind_ret, Prog.pure_eq_ret, wp_deviceId]
  iintro ⟨#HR, #B4, Stt, Pstt, Bp4t, HO, Ts4t, Tr4t, Sft, Psft, Bp4f, Ts4f, Tr4f⟩ Hk
  iapply (wp_snd m c true 4 (by decide) (s := true) (s' := false) rfl rfl rfl rfl (O := ow c 4 3) rfl (dev19_eq c) rfl rfl rfl rfl) $$ [Stt Bp4t HO Ts4t Pstt Tr4t]
  · isplitr; · iexact HR
    isplitl [Stt]; · iexact Stt
    isplitl [Bp4t]; · iexact Bp4t
    isplitr; · iexact B4
    isplitl [HO]; · iexact HO
    isplitl [Ts4t]; · iexact Ts4t
    isplitl [Pstt]; · iexact Pstt
    iexact Tr4t
  iintro ⟨Cs4t, HO, Pstt⟩
  iapply (wp_snd m c false 4 (by decide) (s := true) (s' := false) rfl rfl rfl rfl (O := rem c 1) rfl (dev20_eq c) rfl rfl rfl rfl) $$ [Sft Bp4f HO Ts4f Psft Tr4f]
  · isplitr; · iexact HR
    isplitl [Sft]; · iexact Sft
    isplitl [Bp4f]; · iexact Bp4f
    isplitr; · iexact B4
    isplitl [HO]; · iexact HO
    isplitl [Ts4f]; · iexact Ts4f
    isplitl [Psft]; · iexact Psft
    iexact Tr4f
  iintro ⟨Cs4f, HO, Psft⟩
  iapply (wp_sndWait m c true 4 (by decide) (s := true) rfl rfl (X := src m true 4 c) rfl ((above_rem c 1 (by decide)).mono (by decide)) rfl (N_slot true true)) $$ [Cs4t HO Pstt]
  · isplitr; · iexact HR
    isplitl [Cs4t]; · iexact Cs4t
    isplitl [HO]; · iexact HO
    iexact Pstt
  iintro ⟨HO, Pstt, Stt⟩
  iapply (wp_fin c _ _)
  iapply Hk
  isplitl [Cs4f]; · iexact Cs4f
  isplitl [Psft]; · iexact Psft
  isplitl [HO]; · iexact HO
  isplitl [Pstt]; · iexact Pstt
  iexact Stt

/-- Stretch 21 of the body. -/
theorem part21_wp (c : Dev nD) (v2 : BitVec 32) (v14 : BitVec 32) (v25 : BitVec 32) {Q : (Σ' (v579 : BitVec 32), BitVec 32) → sProp 𝕄} :
    iprop(recs m ∗ Ow c (rem c 1) ∗ cred (tallyAt (recvC true false c) 4 N) ∗ pos (recvC true false c) 1 ∗ cred (tallyAt (sendC false true c) 0 N) ∗
      pos (sendC false true c) 1 ∗ cred (tallyAt (recvC false false c) 4 N) ∗ pos (recvC false false c) 1)
      ⊢ iprop((∀ r, (reached ER (barC (fr true c)) 5 ∗ reached ER (barC (fr false c)) 5 ∗ pos (recvC true false c) 2 ∗ sl c true false (src m true 5 c) ∗
        pos (sendC false true c) 2 ∗ sl c false true (src m false 4 c) ∗ Ow c (rem c 1) ∗ pos (recvC false false c) 2 ∗ sl c false false (src m false 5 c)) -∗ Q r)
          -∗ wpc c (k0_part21 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 v2 v14 v25) Q) := by
  rw [k0_part21_eq_skeleton]; unfold k0_part21_skel
  simp only [semSignalWord, semWaitWord, Prog.lift, Prog.bind_op, Prog.bind_ret, Prog.pure_eq_ret, wp_deviceId]
  iintro ⟨#HR, HO, Cr4t, Prtf, Cs4f, Psft, Cr4f, Prff⟩ Hk
  iapply (wp_rcvWait m c true 4 (by decide) (s := false) rfl rfl (X := src m true 5 c) rfl ((above_rem c 1 (by decide)).mono (by decide)) rfl (N_slot true false)) $$ [Cr4t HO Prtf]
  · isplitr; · iexact HR
    isplitl [Cr4t]; · iexact Cr4t
    isplitl [HO]; · iexact HO
    iexact Prtf
  iintro ⟨HO, Prtf, Stf, #R5t⟩
  iapply (wp_sndWait m c false 4 (by decide) (s := true) rfl rfl (X := src m false 4 c) rfl ((above_rem c 1 (by decide)).mono (by decide)) rfl (N_slot false true)) $$ [Cs4f HO Psft]
  · isplitr; · iexact HR
    isplitl [Cs4f]; · iexact Cs4f
    isplitl [HO]; · iexact HO
    iexact Psft
  iintro ⟨HO, Psft, Sft⟩
  iapply (wp_rcvWait m c false 4 (by decide) (s := false) rfl rfl (X := src m false 5 c) rfl ((above_rem c 1 (by decide)).mono (by decide)) rfl (N_slot false false)) $$ [Cr4f HO Prff]
  · isplitr; · iexact HR
    isplitl [Cr4f]; · iexact Cr4f
    isplitl [HO]; · iexact HO
    iexact Prff
  iintro ⟨HO, Prff, Sff, #R5f⟩
  iapply (wp_fin c _ _)
  iapply Hk
  isplitr; · iexact R5t
  isplitr; · iexact R5f
  isplitl [Prtf]; · iexact Prtf
  isplitl [Stf]; · iexact Stf
  isplitl [Psft]; · iexact Psft
  isplitl [Sft]; · iexact Sft
  isplitl [HO]; · iexact HO
  isplitl [Prff]; · iexact Prff
  iexact Sff

/-- Stretch 22 of the body. -/
theorem part22_wp (c : Dev nD) (v2 : BitVec 32) (v579 : BitVec 32) (v580 : BitVec 32) {Q : (PUnit) → sProp 𝕄} :
    iprop(recs m ∗ sl c true false (src m true 5 c) ∗ outAny c true (fr true (fr true c)) ∗ sem0 c 12 ∗ sl c false false (src m false 5 c) ∗
      outAny c false (fr false (fr false c)) ∗ Ow c (rem c 1))
      ⊢ iprop((∀ r, (outs m c false (fr true (fr true c)) (fr false (fr false c)) 2 N ∗ Ow c (rem c 1)) -∗ Q r)
          -∗ wpc c (k0_part22 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v579 v580) Q) := by
  rw [k0_part22_eq_skeleton]; unfold k0_part22_skel
  simp only [semSignalWord, semWaitWord, Prog.lift, Prog.bind_op, Prog.bind_ret, Prog.pure_eq_ret, wp_deviceId]
  iintro ⟨#HR, Stf, Ot2, V12, Sff, Of2, HO⟩ Hk
  iapply (wp_out0 m c false (fr true (fr true c)) (fr false (fr false c)) rfl rfl (out_of _ _ _ (out8_1 c)) rfl) $$ [Stf Ot2 V12]
  · isplitl [Stf]; · iexact Stf
    isplitl [Ot2]; · iexact Ot2
    iexact V12
  iintro LO
  iapply (wp_out1 m c false (fr true (fr true c)) (fr false (fr false c)) rfl rfl (out_of _ _ _ (out9_1 c)) rfl) $$ [Sff Of2 LO]
  · isplitl [Sff]; · iexact Sff
    isplitl [Of2]; · iexact Of2
    iexact LO
  iintro LO
  iapply (wp_outWait0 m c ((above_rem c 1 (by decide)).mono (by decide)) false (fr true (fr true c)) (fr false (fr false c)) rfl true (fr true (fr true c)) (out_of _ _ _ (out8_1 c))) $$ [LO HO]
  · isplitr; · iexact HR
    isplitl [LO]; · iexact LO
    iexact HO
  iintro ⟨LO, HO⟩
  iapply (wp_fin c _ _)
  iapply Hk
  isplitl [LO]; · iexact LO
  iexact HO

/-- Stretch 23 of the body. -/
theorem part23_wp (c : Dev nD) (v14 : BitVec 32) (v25 : BitVec 32) {Q : (PUnit) → sProp 𝕄} :
    iprop(recs m ∗ reached ER (barC (fr true c)) 5 ∗ reached ER (barC (fr false c)) 5 ∗ Ow c (rem c 1) ∗
      outs m c false (fr true (fr true c)) (fr false (fr false c)) 2 N ∗ sl c true true (src m true 4 c) ∗ pos (recvC true true c) 3 ∗
      dutyTok ER (barC (fr true c)) 5 true ∗ sl c false true (src m false 4 c) ∗ pos (recvC false true c) 3 ∗ dutyTok ER (barC (fr false c)) 5 false ∗
      cred (tallyAt (barC c) 5 2) ∗ pos (barC c) 5 ∗ pos (sendC true false c) 3 ∗ dutyTok ER (sendC true false c) 3 false ∗
      dutyTok ER (recvC true true (go true c)) 3 false)
      ⊢ iprop((∀ r, (reached ER (barC c) 6 ∗ outO m c true (fr true (fr true c)) ∗ outO m c false (fr false (fr false c)) ∗ sem0 c 12 ∗
        sl c false false (fin m false (fr false (fr false c))) ∗ pos (recvC true true c) 3 ∗ pos (recvC false true c) 3 ∗ pos (barC c) 6 ∗ barPay false 5 c ∗
        cred (tallyAt (sendC true false c) 0 N) ∗ Ow c (ow c 5 3) ∗ pos (sendC true false c) 3) -∗ Q r)
          -∗ wpc c (k0_part23 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v14 v25 barA) Q) := by
  rw [k0_part23_eq_skeleton]; unfold k0_part23_skel
  simp only [semSignalWord, semWaitWord, Prog.lift, Prog.bind_op, Prog.bind_ret, Prog.pure_eq_ret, wp_deviceId]
  iintro ⟨#HR, #R5t, #R5f, HO, LO, Stt, Prtt, Tb5t, Sft, Prft, Tb5f, Cb5, Pb, Pstf, Ts5t, Tr5t⟩ Hk
  iapply (wp_outWait1 m c ((above_rem c 1 (by decide)).mono (by decide)) false (fr true (fr true c)) (fr false (fr false c)) rfl false (fr false (fr false c)) (out_of _ _ _ (out9_1 c))) $$ [LO HO]
  · isplitr; · iexact HR
    isplitl [LO]; · iexact LO
    iexact HO
  iintro ⟨Ot2, Stf, Of2, Sff, V12, HO⟩
  ihave Stt := (sl_any _ _ _ _) $$ Stt
  iapply (wp_sig m c true 5 (by decide) rfl rfl (dev21_eq c) rfl rfl (O := ow c 5 1) rfl) $$ [HO Tb5t Stt Prtt]
  · isplitr; · iexact HR
    isplitl [HO]; · iexact HO
    isplitl [Tb5t]; · iexact Tb5t
    isplitr; · iexact R5t
    isplitl [Stt]; · iexact Stt
    iexact Prtt
  iintro ⟨HO, Prtt⟩
  ihave Sft := (sl_any _ _ _ _) $$ Sft
  iapply (wp_sig m c false 5 (by decide) rfl rfl (dev22_eq c) rfl rfl (O := ow c 5 2) rfl) $$ [HO Tb5f Sft Prft]
  · isplitr; · iexact HR
    isplitl [HO]; · iexact HO
    isplitl [Tb5f]; · iexact Tb5f
    isplitr; · iexact R5f
    isplitl [Sft]; · iexact Sft
    iexact Prft
  iintro ⟨HO, Prft⟩
  iapply (wp_barWait m c 5 (by decide) (above_ow c 5 (by decide)) rfl rfl) $$ [Cb5 HO Pb]
  · isplitr; · iexact HR
    isplitl [Cb5]; · iexact Cb5
    isplitl [HO]; · iexact HO
    iexact Pb
  iintro ⟨HO, Pb, #B5, Bp5t, Bp5f⟩
  iapply (wp_snd m c true 5 (by decide) (s := false) (s' := true) rfl rfl rfl rfl (O := ow c 5 3) rfl (dev23_eq c) rfl rfl rfl rfl) $$ [Stf Bp5t HO Ts5t Pstf Tr5t]
  · isplitr; · iexact HR
    isplitl [Stf]; · iexact Stf
    isplitl [Bp5t]; · iexact Bp5t
    isplitr; · iexact B5
    isplitl [HO]; · iexact HO
    isplitl [Ts5t]; · iexact Ts5t
    isplitl [Pstf]; · iexact Pstf
    iexact Tr5t
  iintro ⟨Cs5t, HO, Pstf⟩
  iapply (wp_fin c _ _)
  iapply Hk
  isplitr; · iexact B5
  isplitl [Ot2]; · iexact Ot2
  isplitl [Of2]; · iexact Of2
  isplitl [V12]; · iexact V12
  isplitl [Sff]; · iexact Sff
  isplitl [Prtt]; · iexact Prtt
  isplitl [Prft]; · iexact Prft
  isplitl [Pb]; · iexact Pb
  isplitl [Bp5f]; · iexact Bp5f
  isplitl [Cs5t]; · iexact Cs5t
  isplitl [HO]; · iexact HO
  iexact Pstf

/-- Stretch 24 of the body. -/
theorem part24_wp (c : Dev nD) (v25 : BitVec 32) {Q : (PUnit) → sProp 𝕄} :
    iprop(recs m ∗ reached ER (barC c) 6 ∗ sl c false false (fin m false (fr false (fr false c))) ∗ pos (sendC false false c) 3 ∗ barPay false 5 c ∗
      Ow c (ow c 5 3) ∗ dutyTok ER (sendC false false c) 3 false ∗ dutyTok ER (recvC false true (go false c)) 3 false ∗ cred (tallyAt (sendC true false c) 0 N) ∗
      pos (sendC true false c) 3 ∗ cred (tallyAt (recvC true true c) 5 N) ∗ pos (recvC true true c) 3)
      ⊢ iprop((∀ r, (reached ER (barC (fr true c)) 6 ∗ pos (sendC true false c) 4 ∗ sl c true false (src m true 5 c) ∗ pos (recvC true true c) 4 ∗
        sl c true true (fin m true (fr true (fr true (fr true c)))) ∗ Ow c (rem c 0) ∗ pos (sendC false false c) 4 ∗ sl c false false (src m false 5 c)) -∗ Q r)
          -∗ wpc c (k0_part24 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v25) Q) := by
  rw [k0_part24_eq_skeleton]; unfold k0_part24_skel
  simp only [semSignalWord, semWaitWord, Prog.lift, Prog.bind_op, Prog.bind_ret, Prog.pure_eq_ret, wp_deviceId]
  iintro ⟨#HR, #B5, Sff, Psff, Bp5f, HO, Ts5f, Tr5f, Cs5t, Pstf, Cr5t, Prtt⟩ Hk
  iapply (wp_snd m c false 5 (by decide) (s := false) (s' := true) rfl rfl rfl rfl (O := rem c 0) rfl (dev24_eq c) rfl rfl rfl rfl) $$ [Sff Bp5f HO Ts5f Psff Tr5f]
  · isplitr; · iexact HR
    isplitl [Sff]; · iexact Sff
    isplitl [Bp5f]; · iexact Bp5f
    isplitr; · iexact B5
    isplitl [HO]; · iexact HO
    isplitl [Ts5f]; · iexact Ts5f
    isplitl [Psff]; · iexact Psff
    iexact Tr5f
  iintro ⟨Cs5f, HO, Psff⟩
  iapply (wp_sndWait m c true 5 (by decide) (s := false) rfl rfl (X := src m true 5 c) rfl ((above_rem c 0 (by decide)).mono (by decide)) rfl (N_slot true false)) $$ [Cs5t HO Pstf]
  · isplitr; · iexact HR
    isplitl [Cs5t]; · iexact Cs5t
    isplitl [HO]; · iexact HO
    iexact Pstf
  iintro ⟨HO, Pstf, Stf⟩
  iapply (wp_rcvWait m c true 5 (by decide) (s := true) rfl rfl (X := fin m true (fr true (fr true (fr true c)))) rfl ((above_rem c 0 (by decide)).mono (by decide)) rfl (N_slot true true)) $$ [Cr5t HO Prtt]
  · isplitr; · iexact HR
    isplitl [Cr5t]; · iexact Cr5t
    isplitl [HO]; · iexact HO
    iexact Prtt
  iintro ⟨HO, Prtt, Stt, #R6t⟩
  iapply (wp_sndWait m c false 5 (by decide) (s := false) rfl rfl (X := src m false 5 c) rfl ((above_rem c 0 (by decide)).mono (by decide)) rfl (N_slot false false)) $$ [Cs5f HO Psff]
  · isplitr; · iexact HR
    isplitl [Cs5f]; · iexact Cs5f
    isplitl [HO]; · iexact HO
    iexact Psff
  iintro ⟨HO, Psff, Sff⟩
  iapply (wp_fin c _ _)
  iapply Hk
  isplitr; · iexact R6t
  isplitl [Pstf]; · iexact Pstf
  isplitl [Stf]; · iexact Stf
  isplitl [Prtt]; · iexact Prtt
  isplitl [Stt]; · iexact Stt
  isplitl [HO]; · iexact HO
  isplitl [Psff]; · iexact Psff
  iexact Sff

/-- Stretch 25 of the body. -/
theorem part25_wp (c : Dev nD) (v2 : BitVec 32) (v14 : BitVec 32) {Q : (Σ' (v692 : BitVec 32), BitVec 32) → sProp 𝕄} :
    iprop(recs m ∗ Ow c (rem c 0) ∗ cred (tallyAt (recvC false true c) 5 N) ∗ pos (recvC false true c) 3)
      ⊢ iprop((∀ r, (reached ER (barC (fr false c)) 6 ∗ Ow c (rem c 0) ∗ pos (recvC false true c) 4 ∗ sl c false true (fin m false (fr false (fr false (fr false c))))) -∗ Q r)
          -∗ wpc c (k0_part25 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 v2 v14) Q) := by
  rw [k0_part25_eq_skeleton]; unfold k0_part25_skel
  simp only [semSignalWord, semWaitWord, Prog.lift, Prog.bind_op, Prog.bind_ret, Prog.pure_eq_ret, wp_deviceId]
  iintro ⟨#HR, HO, Cr5f, Prft⟩ Hk
  iapply (wp_rcvWait m c false 5 (by decide) (s := true) rfl rfl (X := fin m false (fr false (fr false (fr false c)))) rfl ((above_rem c 0 (by decide)).mono (by decide)) rfl (N_slot false true)) $$ [Cr5f HO Prft]
  · isplitr; · iexact HR
    isplitl [Cr5f]; · iexact Cr5f
    isplitl [HO]; · iexact HO
    iexact Prft
  iintro ⟨HO, Prft, Sft, #R6f⟩
  iapply (wp_fin c _ _)
  iapply Hk
  isplitr; · iexact R6f
  isplitl [HO]; · iexact HO
  isplitl [Prft]; · iexact Prft
  iexact Sft

end Cert.KernelIdeal.Ring

end
-- ==== Proof.Body.lean ====
module

public import proofs.«01_k».proof.Proof.Parts

@[expose] public section

set_option maxHeartbeats 4000000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg)

/-- A stretch, and what follows it. -/
theorem wp_seq (c : Dev nD) {α β : Type} (p : Prog (TpuEff nD τ sig (Elt F) Λ₀ .tc) α) (k : α → Prog (TpuEff nD τ sig (Elt F) Λ₀ .tc) β) (Q : β → sProp 𝕄) :
    wpc c p (fun a => wpc c (k a) Q) ⊢ wpc c (p >>= k) Q := by
  unfold wpc
  rw [wp_bind]

/-- The whole body: what a device starts with, and what it ends with. -/
theorem body_wp (c : Dev nD) {Q : PUnit → sProp 𝕄} :
    iprop(recs m ∗ slAny c true true ∗ pos (recvC true true c) 0 ∗ Ow c (rem c 6) ∗ dutyTok ER (barC (fr true c)) 0 true ∗ slAny c false true ∗ pos (recvC false true c) 0 ∗
      dutyTok ER (barC (fr false c)) 0 false ∗ cred (tallyAt (barC c) 0 2) ∗ pos (barC c) 0 ∗ resO m c ∗ rbAny c ∗ sem0 c 11 ∗ slAny c true false ∗
      inO m c true (sh 3 c) ∗ sem0 c 9 ∗ slAny c false false ∗ inO m c false (sh 1 c) ∗ sem0 c 10 ∗ pos (sendC true false c) 0 ∗
      dutyTok ER (sendC true false c) 0 false ∗ dutyTok ER (recvC true true (go true c)) 0 false ∗ pos (sendC false false c) 0 ∗
      dutyTok ER (sendC false false c) 0 false ∗ dutyTok ER (recvC false true (go false c)) 0 false ∗ pbAny c true ∗ inO m c true (sh 6 c) ∗ pbAny c false ∗
      inO m c false (sh 2 c) ∗ cred (tallyAt (recvC true true c) 0 N) ∗ cred (tallyAt (recvC false true c) 0 N) ∗ pos (recvC true false c) 0 ∗
      dutyTok ER (barC (fr true c)) 1 true ∗ pos (recvC false false c) 0 ∗ dutyTok ER (barC (fr false c)) 1 false ∗ cred (tallyAt (barC c) 1 2) ∗
      pos (sendC true true c) 0 ∗ dutyTok ER (sendC true true c) 0 false ∗ dutyTok ER (recvC true false (go true c)) 0 false ∗ pos (sendC false true c) 0 ∗
      dutyTok ER (sendC false true c) 0 false ∗ dutyTok ER (recvC false false (go false c)) 0 false ∗ inO m c true (sh 5 c) ∗ inO m c false (sh 3 c) ∗
      cred (tallyAt (recvC true false c) 1 N) ∗ cred (tallyAt (recvC false false c) 1 N) ∗ dutyTok ER (barC (fr true c)) 2 true ∗
      dutyTok ER (barC (fr false c)) 2 false ∗ cred (tallyAt (barC c) 2 2) ∗ dutyTok ER (sendC true false c) 1 false ∗
      dutyTok ER (recvC true true (go true c)) 1 false ∗ dutyTok ER (sendC false false c) 1 false ∗ dutyTok ER (recvC false true (go false c)) 1 false ∗
      inO m c true (sh 4 c) ∗ inO m c false (sh 4 c) ∗ cred (tallyAt (recvC true true c) 2 N) ∗ cred (tallyAt (recvC false true c) 2 N) ∗ gb m c ∗
      outAny c true c ∗ sem0 c 12 ∗ outAny c false c ∗ dutyTok ER (barC (fr true c)) 3 true ∗ dutyTok ER (barC (fr false c)) 3 false ∗
      cred (tallyAt (barC c) 3 2) ∗ dutyTok ER (sendC true false c) 2 false ∗ dutyTok ER (recvC true true (go true c)) 2 false ∗
      dutyTok ER (sendC false false c) 2 false ∗ dutyTok ER (recvC false true (go false c)) 2 false ∗ cred (tallyAt (recvC true true c) 3 N) ∗
      cred (tallyAt (recvC false true c) 3 N) ∗ outAny c true (fr true c) ∗ outAny c false (fr false c) ∗ dutyTok ER (barC (fr true c)) 4 true ∗
      dutyTok ER (barC (fr false c)) 4 false ∗ cred (tallyAt (barC c) 4 2) ∗ dutyTok ER (sendC true true c) 1 false ∗
      dutyTok ER (recvC true false (go true c)) 1 false ∗ dutyTok ER (sendC false true c) 1 false ∗ dutyTok ER (recvC false false (go false c)) 1 false ∗
      cred (tallyAt (recvC true false c) 4 N) ∗ cred (tallyAt (recvC false false c) 4 N) ∗ outAny c true (fr true (fr true c)) ∗
      outAny c false (fr false (fr false c)) ∗ dutyTok ER (barC (fr true c)) 5 true ∗ dutyTok ER (barC (fr false c)) 5 false ∗ cred (tallyAt (barC c) 5 2) ∗
      dutyTok ER (sendC true false c) 3 false ∗ dutyTok ER (recvC true true (go true c)) 3 false ∗ dutyTok ER (sendC false false c) 3 false ∗
      dutyTok ER (recvC false true (go false c)) 3 false ∗ cred (tallyAt (recvC true true c) 5 N) ∗ cred (tallyAt (recvC false true c) 5 N) ∗
      outAny c true (fr true (fr true (fr true c))) ∗ outAny c false (fr false (fr false (fr false c))))
      ⊢ iprop(((inO m c true (sh 3 c) ∗ inO m c false (sh 1 c) ∗ inO m c true (sh 6 c) ∗ inO m c false (sh 2 c) ∗ inO m c true (sh 5 c) ∗ inO m c false (sh 3 c) ∗
        inO m c true (sh 4 c) ∗ sem0 c 9 ∗ inO m c false (sh 4 c) ∗ sem0 c 10 ∗ pb c true (part m true c (sh 4 c)) ∗ pb c false (part m false c (sh 4 c)) ∗
        resO m c ∗ sem0 c 11 ∗ rb m c ∗ gb m c ∗ outO m c true c ∗ outO m c false c ∗ outO m c true (fr true c) ∗ outO m c false (fr false c) ∗
        pos (sendC true true c) 2 ∗ pos (recvC true false c) 2 ∗ pos (sendC false true c) 2 ∗ pos (recvC false false c) 2 ∗ outO m c true (fr true (fr true c)) ∗
        outO m c false (fr false (fr false c)) ∗ pos (barC c) 6 ∗ pos (sendC true false c) 4 ∗ sl c true false (src m true 5 c) ∗ pos (recvC true true c) 4 ∗
        pos (sendC false false c) 4 ∗ sl c false false (src m false 5 c) ∗ pos (recvC false true c) 4 ∗ outO m c true (fr true (fr true (fr true c))) ∗
        outO m c false (fr false (fr false (fr false c))) ∗ sem0 c 12 ∗ Ow c (rem c 0) ∗ sl c true true (fin m true (fr true (fr true (fr true c)))) ∗
        sl c false true (fin m false (fr false (fr false (fr false c))))) -∗ Q ⟨⟩)
          -∗ wpc c (cc0_body (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Q) := by
  rw [cc0_body_eq_skeleton]; unfold cc0_body_skel
  iintro ⟨#HR, Stt, Prtt, HO, Tb0t, Sft, Prft, Tb0f, Cb0, Pb, RO, RB, V11, Stf, It3, V9, Sff, If1, V10, Pstf, Ts0t, Tr0t, Psff, Ts0f, Tr0f, Pt, It6, Pf, If2, Cr0t, Cr0f, Prtf, Tb1t, Prff, Tb1f, Cb1, Pstt, Ts1t, Tr1t, Psft, Ts1f, Tr1f, It5, If3, Cr1t, Cr1f, Tb2t, Tb2f, Cb2, Ts2t, Tr2t, Ts2f, Tr2f, It4, If4, Cr2t, Cr2f, GB, Ot0, V12, Of0, Tb3t, Tb3f, Cb3, Ts3t, Tr3t, Ts3f, Tr3f, Cr3t, Cr3f, Ot1, Of1, Tb4t, Tb4f, Cb4, Ts4t, Tr4t, Ts4f, Tr4f, Cr4t, Cr4f, Ot2, Of2, Tb5t, Tb5f, Cb5, Ts5t, Tr5t, Ts5f, Tr5f, Cr5t, Cr5f, Ot3, Of3⟩ Hk
  iapply (wp_seq c _ _ _)
  iapply (part1_wp m c ) $$ [Stt Prtt HO Tb0t Sft Prft Tb0f Cb0 Pb]
  · isplitr; · iexact HR
    isplitl [Stt]; · iexact Stt
    isplitl [Prtt]; · iexact Prtt
    isplitl [HO]; · iexact HO
    isplitl [Tb0t]; · iexact Tb0t
    isplitl [Sft]; · iexact Sft
    isplitl [Prft]; · iexact Prft
    isplitl [Tb0f]; · iexact Tb0f
    isplitl [Cb0]; · iexact Cb0
    iexact Pb
  iintro %v2 %v14 %v25 ⟨#R0t, #R0f, #B0, Prtt, Prft, HO, Pb, Bp0t, Bp0f⟩
  dsimp only
  iapply (wp_seq c _ _ _)
  iapply (part2_wp m c _) $$ [RO RB V11 Stf It3 V9]
  · isplitr; · iexact HR
    isplitl [RO]; · iexact RO
    isplitl [RB]; · iexact RB
    isplitl [V11]; · iexact V11
    isplitl [Stf]; · iexact Stf
    isplitl [It3]; · iexact It3
    iexact V9
  iintro %r2 ⟨L11, L9⟩
  iapply (wp_seq c _ _ _)
  iapply (part3_wp m c _ _) $$ [Sff If1 V10 HO L9 Pstf Bp0t Ts0t Tr0t]
  · isplitr; · iexact HR
    isplitr; · iexact B0
    isplitl [Sff]; · iexact Sff
    isplitl [If1]; · iexact If1
    isplitl [V10]; · iexact V10
    isplitl [HO]; · iexact HO
    isplitl [L9]; · iexact L9
    isplitl [Pstf]; · iexact Pstf
    isplitl [Bp0t]; · iexact Bp0t
    isplitl [Ts0t]; · iexact Ts0t
    iexact Tr0t
  iintro %r3 ⟨It3, V9, Sff, If1, V10, Cs0t, HO, Pstf⟩
  iapply (wp_seq c _ _ _)
  iapply (part4_wp m c _) $$ [Sff Psff Bp0f HO Ts0f Tr0f Pt It6 V9]
  · isplitr; · iexact HR
    isplitr; · iexact B0
    isplitl [Sff]; · iexact Sff
    isplitl [Psff]; · iexact Psff
    isplitl [Bp0f]; · iexact Bp0f
    isplitl [HO]; · iexact HO
    isplitl [Ts0f]; · iexact Ts0f
    isplitl [Tr0f]; · iexact Tr0f
    isplitl [Pt]; · iexact Pt
    isplitl [It6]; · iexact It6
    iexact V9
  iintro %r4 ⟨Cs0f, HO, Psff, L9⟩
  iapply (wp_seq c _ _ _)
  iapply (part5_wp m c _) $$ [Pf If2 V10 HO L9 Cs0t Pstf Cr0t Prtt]
  · isplitr; · iexact HR
    isplitl [Pf]; · iexact Pf
    isplitl [If2]; · iexact If2
    isplitl [V10]; · iexact V10
    isplitl [HO]; · iexact HO
    isplitl [L9]; · iexact L9
    isplitl [Cs0t]; · iexact Cs0t
    isplitl [Pstf]; · iexact Pstf
    isplitl [Cr0t]; · iexact Cr0t
    iexact Prtt
  iintro %r5 ⟨#R1t, Pt, It6, V9, Pf, If2, V10, Pstf, Stf, HO, Prtt, Stt⟩
  iapply (wp_seq c _ _ _)
  iapply (part6_wp m c _) $$ [HO Cs0f Psff Cr0f Prft Stt Pt Pf]
  · isplitr; · iexact HR
    isplitl [HO]; · iexact HO
    isplitl [Cs0f]; · iexact Cs0f
    isplitl [Psff]; · iexact Psff
    isplitl [Cr0f]; · iexact Cr0f
    isplitl [Prft]; · iexact Prft
    isplitl [Stt]; · iexact Stt
    isplitl [Pt]; · iexact Pt
    iexact Pf
  iintro %r6 ⟨#R1f, Psff, Sff, HO, Prft, Pt, Stt, Pf, Sft⟩
  iapply (wp_seq c _ _ _)
  iapply (part7_wp m c _ _ _ _) $$ [Stf Prtf HO Tb1t Sff Prff Tb1f Cb1 Pb Stt Pstt Ts1t Tr1t Sft Psft Ts1f Tr1f]
  · isplitr; · iexact HR
    isplitr; · iexact R1t
    isplitr; · iexact R1f
    isplitl [Stf]; · iexact Stf
    isplitl [Prtf]; · iexact Prtf
    isplitl [HO]; · iexact HO
    isplitl [Tb1t]; · iexact Tb1t
    isplitl [Sff]; · iexact Sff
    isplitl [Prff]; · iexact Prff
    isplitl [Tb1f]; · iexact Tb1f
    isplitl [Cb1]; · iexact Cb1
    isplitl [Pb]; · iexact Pb
    isplitl [Stt]; · iexact Stt
    isplitl [Pstt]; · iexact Pstt
    isplitl [Ts1t]; · iexact Ts1t
    isplitl [Tr1t]; · iexact Tr1t
    isplitl [Sft]; · iexact Sft
    isplitl [Psft]; · iexact Psft
    isplitl [Ts1f]; · iexact Ts1f
    iexact Tr1f
  iintro %r7 ⟨#B1, Prtf, Prff, Pb, Cs1t, Pstt, Cs1f, HO, Psft⟩
  iapply (wp_seq c _ _ _)
  iapply (part8_wp m c _ _ _ _) $$ [Pt It5 V9 Pf If3 V10 HO]
  · isplitr; · iexact HR
    isplitl [Pt]; · iexact Pt
    isplitl [It5]; · iexact It5
    isplitl [V9]; · iexact V9
    isplitl [Pf]; · iexact Pf
    isplitl [If3]; · iexact If3
    isplitl [V10]; · iexact V10
    iexact HO
  iintro %r8 ⟨Pt, It5, V9, Pf, If3, V10, HO⟩
  iapply (wp_seq c _ _ _)
  iapply (part9_wp m c _ _) $$ [HO Cs1t Pstt Cr1t Prtf Cs1f Psft]
  · isplitr; · iexact HR
    isplitl [HO]; · iexact HO
    isplitl [Cs1t]; · iexact Cs1t
    isplitl [Pstt]; · iexact Pstt
    isplitl [Cr1t]; · iexact Cr1t
    isplitl [Prtf]; · iexact Prtf
    isplitl [Cs1f]; · iexact Cs1f
    iexact Psft
  iintro %r9 ⟨#R2t, Pstt, Stt, Prtf, Stf, HO, Psft, Sft⟩
  iapply (wp_seq c _ _ _)
  iapply (part10_wp m c _ _) $$ [HO Cr1f Prff Stf Pt Pf Stt Prtt Tb2t Sft Prft Tb2f Cb2 Pb]
  · isplitr; · iexact HR
    isplitr; · iexact R2t
    isplitl [HO]; · iexact HO
    isplitl [Cr1f]; · iexact Cr1f
    isplitl [Prff]; · iexact Prff
    isplitl [Stf]; · iexact Stf
    isplitl [Pt]; · iexact Pt
    isplitl [Pf]; · iexact Pf
    isplitl [Stt]; · iexact Stt
    isplitl [Prtt]; · iexact Prtt
    isplitl [Tb2t]; · iexact Tb2t
    isplitl [Sft]; · iexact Sft
    isplitl [Prft]; · iexact Prft
    isplitl [Tb2f]; · iexact Tb2f
    isplitl [Cb2]; · iexact Cb2
    iexact Pb
  iintro %r10 ⟨#R2f, #B2, Prff, Pt, Stf, Pf, Sff, Prtt, Prft, HO, Pb, Bp2t, Bp2f⟩
  iapply (wp_seq c _ _ _)
  iapply (part11_wp m c _ _ _) $$ [Stf Pstf Bp2t HO Ts2t Tr2t Sff Psff Bp2f Ts2f Tr2f]
  · isplitr; · iexact HR
    isplitr; · iexact B2
    isplitl [Stf]; · iexact Stf
    isplitl [Pstf]; · iexact Pstf
    isplitl [Bp2t]; · iexact Bp2t
    isplitl [HO]; · iexact HO
    isplitl [Ts2t]; · iexact Ts2t
    isplitl [Tr2t]; · iexact Tr2t
    isplitl [Sff]; · iexact Sff
    isplitl [Psff]; · iexact Psff
    isplitl [Bp2f]; · iexact Bp2f
    isplitl [Ts2f]; · iexact Ts2f
    iexact Tr2f
  iintro %r11 ⟨Cs2t, Pstf, Cs2f, HO, Psff⟩
  iapply (wp_seq c _ _ _)
  iapply (part12_wp m c _ _ _) $$ [Pt It4 V9 Pf If4 V10 HO]
  · isplitr; · iexact HR
    isplitl [Pt]; · iexact Pt
    isplitl [It4]; · iexact It4
    isplitl [V9]; · iexact V9
    isplitl [Pf]; · iexact Pf
    isplitl [If4]; · iexact If4
    isplitl [V10]; · iexact V10
    iexact HO
  iintro %r12 ⟨Pt, It4, V9, Pf, If4, V10, HO⟩
  iapply (wp_seq c _ _ _)
  iapply (part13_wp m c _ _) $$ [HO Cs2t Pstf Cr2t Prtt Cs2f Psff Cr2f Prft]
  · isplitr; · iexact HR
    isplitl [HO]; · iexact HO
    isplitl [Cs2t]; · iexact Cs2t
    isplitl [Pstf]; · iexact Pstf
    isplitl [Cr2t]; · iexact Cr2t
    isplitl [Prtt]; · iexact Prtt
    isplitl [Cs2f]; · iexact Cs2f
    isplitl [Psff]; · iexact Psff
    isplitl [Cr2f]; · iexact Cr2f
    iexact Prft
  iintro ⟨#R3t, #R3f, Pstf, Stf, Prtt, Psff, Sff, HO, Prft, Sft, Stt⟩
  iapply (wp_seq c _ _ _)
  iapply (part14_wp m c ) $$ [Pt Stt Sft Pf HO L11 GB]
  · isplitr; · iexact HR
    isplitl [Pt]; · iexact Pt
    isplitl [Stt]; · iexact Stt
    isplitl [Sft]; · iexact Sft
    isplitl [Pf]; · iexact Pf
    isplitl [HO]; · iexact HO
    isplitl [L11]; · iexact L11
    iexact GB
  iintro ⟨Pt, Pf, Sft, RO, V11, HO, Stt, RB, GB⟩
  iapply (wp_seq c _ _ _)
  iapply (part15_wp m c _) $$ [Stf Sft RB GB Sff Ot0 V12]
  · isplitr; · iexact HR
    isplitl [Stf]; · iexact Stf
    isplitl [Sft]; · iexact Sft
    isplitl [RB]; · iexact RB
    isplitl [GB]; · iexact GB
    isplitl [Sff]; · iexact Sff
    isplitl [Ot0]; · iexact Ot0
    iexact V12
  iintro %r15 ⟨Sft, RB, GB, Sff, LO⟩
  iapply (wp_seq c _ _ _)
  iapply (part16_wp m c _ _) $$ [Sff Of0 LO HO Stt Prtt Tb3t Sft Prft Tb3f Cb3 Pb Pstf Ts3t Tr3t]
  · isplitr; · iexact HR
    isplitr; · iexact R3t
    isplitr; · iexact R3f
    isplitl [Sff]; · iexact Sff
    isplitl [Of0]; · iexact Of0
    isplitl [LO]; · iexact LO
    isplitl [HO]; · iexact HO
    isplitl [Stt]; · iexact Stt
    isplitl [Prtt]; · iexact Prtt
    isplitl [Tb3t]; · iexact Tb3t
    isplitl [Sft]; · iexact Sft
    isplitl [Prft]; · iexact Prft
    isplitl [Tb3f]; · iexact Tb3f
    isplitl [Cb3]; · iexact Cb3
    isplitl [Pb]; · iexact Pb
    isplitl [Pstf]; · iexact Pstf
    isplitl [Ts3t]; · iexact Ts3t
    iexact Tr3t
  iintro %r16 ⟨#B3, Ot0, Of0, V12, Sff, Prtt, Prft, Pb, Bp3f, Cs3t, HO, Pstf⟩
  iapply (wp_seq c _ _ _)
  iapply (part17_wp m c _ _) $$ [Sff Psff Bp3f HO Ts3f Tr3f Cs3t Pstf Cr3t Prtt]
  · isplitr; · iexact HR
    isplitr; · iexact B3
    isplitl [Sff]; · iexact Sff
    isplitl [Psff]; · iexact Psff
    isplitl [Bp3f]; · iexact Bp3f
    isplitl [HO]; · iexact HO
    isplitl [Ts3f]; · iexact Ts3f
    isplitl [Tr3f]; · iexact Tr3f
    isplitl [Cs3t]; · iexact Cs3t
    isplitl [Pstf]; · iexact Pstf
    isplitl [Cr3t]; · iexact Cr3t
    iexact Prtt
  iintro %r17 ⟨#R4t, Cs3f, Psff, Pstf, Stf, HO, Prtt, Stt⟩
  iapply (wp_seq c _ _ _)
  iapply (part18_wp m c _ _) $$ [HO Cs3f Psff Cr3f Prft]
  · isplitr; · iexact HR
    isplitl [HO]; · iexact HO
    isplitl [Cs3f]; · iexact Cs3f
    isplitl [Psff]; · iexact Psff
    isplitl [Cr3f]; · iexact Cr3f
    iexact Prft
  iintro %r18 ⟨#R4f, Psff, Sff, HO, Prft, Sft⟩
  iapply (wp_seq c _ _ _)
  iapply (part19_wp m c _ _ _ _ _ _ _ _) $$ [Stt Ot1 V12 Sft Of1 HO Stf Prtf Tb4t Sff Prff Tb4f Cb4 Pb]
  · isplitr; · iexact HR
    isplitr; · iexact R4t
    isplitr; · iexact R4f
    isplitl [Stt]; · iexact Stt
    isplitl [Ot1]; · iexact Ot1
    isplitl [V12]; · iexact V12
    isplitl [Sft]; · iexact Sft
    isplitl [Of1]; · iexact Of1
    isplitl [HO]; · iexact HO
    isplitl [Stf]; · iexact Stf
    isplitl [Prtf]; · iexact Prtf
    isplitl [Tb4t]; · iexact Tb4t
    isplitl [Sff]; · iexact Sff
    isplitl [Prff]; · iexact Prff
    isplitl [Tb4f]; · iexact Tb4f
    isplitl [Cb4]; · iexact Cb4
    iexact Pb
  iintro %r19 ⟨#B4, Ot1, Of1, V12, Stt, Sft, Prtf, Prff, HO, Pb, Bp4t, Bp4f⟩
  iapply (wp_seq c _ _ _)
  iapply (part20_wp m c _ _) $$ [Stt Pstt Bp4t HO Ts4t Tr4t Sft Psft Bp4f Ts4f Tr4f]
  · isplitr; · iexact HR
    isplitr; · iexact B4
    isplitl [Stt]; · iexact Stt
    isplitl [Pstt]; · iexact Pstt
    isplitl [Bp4t]; · iexact Bp4t
    isplitl [HO]; · iexact HO
    isplitl [Ts4t]; · iexact Ts4t
    isplitl [Tr4t]; · iexact Tr4t
    isplitl [Sft]; · iexact Sft
    isplitl [Psft]; · iexact Psft
    isplitl [Bp4f]; · iexact Bp4f
    isplitl [Ts4f]; · iexact Ts4f
    iexact Tr4f
  iintro %r20 ⟨Cs4f, Psft, HO, Pstt, Stt⟩
  iapply (wp_seq c _ _ _)
  iapply (part21_wp m c _ _ _) $$ [HO Cr4t Prtf Cs4f Psft Cr4f Prff]
  · isplitr; · iexact HR
    isplitl [HO]; · iexact HO
    isplitl [Cr4t]; · iexact Cr4t
    isplitl [Prtf]; · iexact Prtf
    isplitl [Cs4f]; · iexact Cs4f
    isplitl [Psft]; · iexact Psft
    isplitl [Cr4f]; · iexact Cr4f
    iexact Prff
  iintro %r21 ⟨#R5t, #R5f, Prtf, Stf, Psft, Sft, HO, Prff, Sff⟩
  iapply (wp_seq c _ _ _)
  iapply (part22_wp m c _ _ _) $$ [Stf Ot2 V12 Sff Of2 HO]
  · isplitr; · iexact HR
    isplitl [Stf]; · iexact Stf
    isplitl [Ot2]; · iexact Ot2
    isplitl [V12]; · iexact V12
    isplitl [Sff]; · iexact Sff
    isplitl [Of2]; · iexact Of2
    iexact HO
  iintro %r22 ⟨LO, HO⟩
  iapply (wp_seq c _ _ _)
  iapply (part23_wp m c _ _) $$ [HO LO Stt Prtt Tb5t Sft Prft Tb5f Cb5 Pb Pstf Ts5t Tr5t]
  · isplitr; · iexact HR
    isplitr; · iexact R5t
    isplitr; · iexact R5f
    isplitl [HO]; · iexact HO
    isplitl [LO]; · iexact LO
    isplitl [Stt]; · iexact Stt
    isplitl [Prtt]; · iexact Prtt
    isplitl [Tb5t]; · iexact Tb5t
    isplitl [Sft]; · iexact Sft
    isplitl [Prft]; · iexact Prft
    isplitl [Tb5f]; · iexact Tb5f
    isplitl [Cb5]; · iexact Cb5
    isplitl [Pb]; · iexact Pb
    isplitl [Pstf]; · iexact Pstf
    isplitl [Ts5t]; · iexact Ts5t
    iexact Tr5t
  iintro %r23 ⟨#B5, Ot2, Of2, V12, Sff, Prtt, Prft, Pb, Bp5f, Cs5t, HO, Pstf⟩
  iapply (wp_seq c _ _ _)
  iapply (part24_wp m c _) $$ [Sff Psff Bp5f HO Ts5f Tr5f Cs5t Pstf Cr5t Prtt]
  · isplitr; · iexact HR
    isplitr; · iexact B5
    isplitl [Sff]; · iexact Sff
    isplitl [Psff]; · iexact Psff
    isplitl [Bp5f]; · iexact Bp5f
    isplitl [HO]; · iexact HO
    isplitl [Ts5f]; · iexact Ts5f
    isplitl [Tr5f]; · iexact Tr5f
    isplitl [Cs5t]; · iexact Cs5t
    isplitl [Pstf]; · iexact Pstf
    isplitl [Cr5t]; · iexact Cr5t
    iexact Prtt
  iintro %r24 ⟨#R6t, Pstf, Stf, Prtt, Stt, HO, Psff, Sff⟩
  iapply (wp_seq c _ _ _)
  iapply (part25_wp m c _ _) $$ [HO Cr5f Prft]
  · isplitr; · iexact HR
    isplitl [HO]; · iexact HO
    isplitl [Cr5f]; · iexact Cr5f
    iexact Prft
  iintro %r25 ⟨#R6f, HO, Prft, Sft⟩
  simp only [Prog.lift, Prog.bind_op, Prog.bind_ret, Prog.pure_eq_ret]
  iapply (wp_out0 m c true (fr true (fr true (fr true c))) (fr false (fr false (fr false c))) rfl rfl (out_of _ _ _ (out8_2 c)) rfl) $$ [Stt Ot3 V12]
  · isplitl [Stt]; · iexact Stt
    isplitl [Ot3]; · iexact Ot3
    iexact V12
  iintro LO
  iapply (wp_out1 m c true (fr true (fr true (fr true c))) (fr false (fr false (fr false c))) rfl rfl (out_of _ _ _ (out9_2 c)) rfl) $$ [Sft Of3 LO]
  · isplitl [Sft]; · iexact Sft
    isplitl [Of3]; · iexact Of3
    iexact LO
  iintro LO
  iapply (wp_outWait0 m c ((above_rem c 0 (by decide)).mono (by decide)) true (fr true (fr true (fr true c))) (fr false (fr false (fr false c))) rfl true (fr true (fr true (fr true c))) (out_of _ _ _ (out8_2 c))) $$ [LO HO]
  · isplitr; · iexact HR
    isplitl [LO]; · iexact LO
    iexact HO
  iintro ⟨LO, HO⟩
  iapply (wp_outWait1 m c ((above_rem c 0 (by decide)).mono (by decide)) true (fr true (fr true (fr true c))) (fr false (fr false (fr false c))) rfl false (fr false (fr false (fr false c))) (out_of _ _ _ (out9_2 c))) $$ [LO HO]
  · isplitr; · iexact HR
    isplitl [LO]; · iexact LO
    iexact HO
  iintro ⟨Ot3, Stt, Of3, Sft, V12, HO⟩
  iapply (wp_fin c _ _)
  iapply Hk
  isplitl [It3]; · iexact It3
  isplitl [If1]; · iexact If1
  isplitl [It6]; · iexact It6
  isplitl [If2]; · iexact If2
  isplitl [It5]; · iexact It5
  isplitl [If3]; · iexact If3
  isplitl [It4]; · iexact It4
  isplitl [V9]; · iexact V9
  isplitl [If4]; · iexact If4
  isplitl [V10]; · iexact V10
  isplitl [Pt]; · iexact Pt
  isplitl [Pf]; · iexact Pf
  isplitl [RO]; · iexact RO
  isplitl [V11]; · iexact V11
  isplitl [RB]; · iexact RB
  isplitl [GB]; · iexact GB
  isplitl [Ot0]; · iexact Ot0
  isplitl [Of0]; · iexact Of0
  isplitl [Ot1]; · iexact Ot1
  isplitl [Of1]; · iexact Of1
  isplitl [Pstt]; · iexact Pstt
  isplitl [Prtf]; · iexact Prtf
  isplitl [Psft]; · iexact Psft
  isplitl [Prff]; · iexact Prff
  isplitl [Ot2]; · iexact Ot2
  isplitl [Of2]; · iexact Of2
  isplitl [Pb]; · iexact Pb
  isplitl [Pstf]; · iexact Pstf
  isplitl [Stf]; · iexact Stf
  isplitl [Prtt]; · iexact Prtt
  isplitl [Psff]; · iexact Psff
  isplitl [Sff]; · iexact Sff
  isplitl [Prft]; · iexact Prft
  isplitl [Ot3]; · iexact Ot3
  isplitl [Of3]; · iexact Of3
  isplitl [V12]; · iexact V12
  isplitl [HO]; · iexact HO
  isplitl [Stt]; · iexact Stt
  iexact Sft

end Cert.KernelIdeal.Ring

end
-- ==== Proof.Ghost.lean ====
/-
# What the launch hands out

The ring's invariants, positions and duty tokens are made at launch for all devices at once and dealt around: a device keeps
its own positions and receives the tokens of the units that it will pay into its neighbours' semaphores.
-/
module

public import proofs.«01_k».proof.Proof.Body

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg)

/-! ## The cells and the tokens -/

theorem csem_injective : Function.Injective csem := by decide +kernel

theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- A hop and a direction. -/
abbrev KD : Type := Fin 6 × Bool

/-- The three payments of a hop in a direction into a device's own semaphores: its neighbour's barrier unit, its own send's
    completion, its neighbour's landing. -/
def tokRest (x : KD × Fin 3) : SemLoc sig × ℕ × Bool := match x.2 with
  | 0 => (.reg barS, x.1.1.val, x.1.2)
  | 1 => (.dma (sendQ x.1.2 (ss x.1.1)), rd x.1.1, false)
  | 2 => (.dma (recvQ x.1.2 (rs x.1.1)), rd x.1.1, false)
theorem tokRest_injective : Function.Injective tokRest := by decide +kernel

def tokOf (cx : Dev nD × (KD × Fin 3)) : GSem nD τ sig × ℕ × Bool :=
  (((cx.1 : Thread nD τ), (tokRest cx.2).1), (tokRest cx.2).2)
theorem tokOf_injective : Function.Injective tokOf := by
  rintro ⟨c, x⟩ ⟨c', x'⟩ h
  have h1 : c = c' := congrArg (fun g : GSem nD τ sig × ℕ × Bool => g.1.1.1) h
  have h2 : x = x' := tokRest_injective (congrArg (fun g : GSem nD τ sig × ℕ × Bool => (g.1.2, g.2)) h)
  rw [h1, h2]
def ringToks : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

/-- The tokens of the payments into device `c`'s own semaphores. -/
def toks (c : Dev nD) : sProp 𝕄 :=
  bigSep Finset.univ fun kd : KD => iprop(dutyTok ER (barC c) kd.1.val kd.2 ∗ dutyTok ER (sendC kd.2 (ss kd.1) c) (rd kd.1) false
    ∗ dutyTok ER (recvC kd.2 (rs kd.1) c) (rd kd.1) false)

/-- The tokens of the payments that device `c` makes. -/
def payToks (c : Dev nD) : sProp 𝕄 :=
  bigSep Finset.univ fun kd : KD => iprop(dutyTok ER (barC (fr kd.2 c)) kd.1.val kd.2 ∗ dutyTok ER (sendC kd.2 (ss kd.1) c) (rd kd.1) false
    ∗ dutyTok ER (recvC kd.2 (rs kd.1) (go kd.2 c)) (rd kd.1) false)

/-- What device `c` gets of the ghost state. -/
def G (c : Dev nD) : sProp 𝕄 :=
  iprop((bigSep Finset.univ fun k : Fin 9 => roundState ER (Rd m) (kcell (c, k)) 0)
    ∗ (bigSep Finset.univ fun k : Fin 9 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_prod]
    refine bigSep_congr fun kd _ => ?_
    rw [bigSep_univ_eq_bigSepL [0, 1, 2] (by decide) (by decide)]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: the eight of the ring and the four of the local copies. -/
def osem : Fin 12 → SemLoc sig := fun i => .dma ⟨i.val + 1, Nat.succ_lt_succ i.isLt⟩

theorem ownSems0_eq (c : Dev nD) : (Pipeline.ownSems0 (Ix := ℕ) (Name := ℕ) (U := UU) (Lvl := ℕ) (Val := Elt F) (τ := τ) osem c : sProp 𝕄)
    = iprop(semVal (sendC true false c) 0 ∗ semVal (sendC true true c) 0 ∗ semVal (recvC true false c) 0 ∗ semVal (recvC true true c) 0
      ∗ semVal (sendC false false c) 0 ∗ semVal (sendC false true c) 0 ∗ semVal (recvC false false c) 0 ∗ semVal (recvC false true c) 0
      ∗ sem0 c 9 ∗ sem0 c 10 ∗ sem0 c 11 ∗ sem0 c 12) := by
  rw [Pipeline.ownSems0_eq_of_list c osem [0, 1, 2, 3, 4, 5, 6, 7, 8, 9, 10, 11] (by decide) (by decide)]; rfl

theorem unscopedSems0_eq (c : Dev nD) : (unscopedSems0 c : sProp 𝕄) = semVal (barC c) 0 := by
  unfold unscopedSems0; rw [bigSep_eq_bigSepL_of_eq [SemLoc.reg barS] (by decide) (by decide)]; rfl

/-- The four semaphores of the local copies at rest. -/
def rest0 (c : Dev nD) : sProp 𝕄 := iprop(sem0 c 9 ∗ sem0 c 10 ∗ sem0 c 11 ∗ sem0 c 12)

theorem bigSep_nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) := by
  rw [bigSep_univ_eq_bigSepL [0, 1, 2, 3, 4, 5, 6, 7, 8] (by decide) (by decide)]; rfl

theorem sems0_split (c : Dev nD) :
    iprop(Pipeline.ownSems0 (Ix := ℕ) (Name := ℕ) (U := UU) (Lvl := ℕ) (Val := Elt F) (τ := τ) osem c ∗ unscopedSems0 c)
      ⊢ (iprop((bigSep Finset.univ fun k : Fin 9 => semVal (kcell (c, k)) 0) ∗ rest0 c) : sProp 𝕄) := by
  rw [ownSems0_eq, unscopedSems0_eq, bigSep_nine]
  unfold rest0
  iintro ⟨⟨H1, H2, H3, H4, H5, H6, H7, H8, H9, H10, H11, H12⟩, HB⟩
  isplitl [HB H1 H2 H3 H4 H5 H6 H7 H8]
  · isplitl [HB]; · iexact HB
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]; · iexact H10
  isplitl [H11]; · iexact H11
  iexact H12

/-! ## The global step -/

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => known m (kcell (c, k)))
          ∗ (bigSep Finset.univ fun k : Fin 9 => iprop(atPos ER (kcell (c, k)) 0 ∅ 0 ∗ reached ER (kcell (c, k)) 0)) ∗ toks c ∗ rest0 c) := by
  unfold G
  iintro ⟨Hos, Hus, Hst, Hat, Htok⟩
  ihave Hv := (sems0_split (F := F) c) $$ [Hos Hus]
  · isplitl [Hos] <;> iassumption
  icases Hv with ⟨Hv, Hrest⟩
  imod (show iprop((bigSep Finset.univ fun k : Fin 9 => semVal (kcell (c, k)) 0) ∗ bigSep Finset.univ fun k : Fin 9 => roundState ER (Rd m) (kcell (c, k)) 0)
      ⊢ (|={Set.univ}=> bigSep Finset.univ fun k => known m (kcell (c, k)) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The invariants of all the ring's semaphores, and that each has reached its first round. -/
def recs₀ : sProp 𝕄 := iprop((bigSep Finset.univ fun ci => known m (kcell ci))
  ∗ (bigSep Finset.univ fun ci : Dev nD × Fin 9 => reached ER (kcell ci) 0))
instance recs₀_persistent : BI.Persistent (recs₀ (F := F) m) := by unfold recs₀; infer_instance

/-- What device `c` starts with besides memory, credit and the order of the waits. -/
def G' (c : Dev nD) : sProp 𝕄 :=
  iprop(recs₀ m ∗ (bigSep Finset.univ fun k : Fin 9 => pos (kcell (c, k)) 0) ∗ payToks c ∗ rest0 c)

/-- The tokens dealt around the ring. -/
theorem toks_around : (bigSep Finset.univ fun c : Dev nD => (toks c : sProp 𝕄)) = bigSep Finset.univ fun c : Dev nD => payToks c := by
  unfold toks payToks
  rw [bigSep_univ_comm (α := Dev nD) (β := KD), bigSep_univ_comm (α := Dev nD) (β := KD)]
  refine bigSep_congr fun kd _ => ?_
  rw [bigSep_sep', bigSep_sep', bigSep_sep', bigSep_sep']
  rw [bigSep_univ_equiv (frE kd.2) (fun c : Dev nD => (dutyTok ER (barC c) kd.1.val kd.2 : sProp 𝕄)),
    bigSep_univ_equiv (goE kd.2) (fun c : Dev nD => (dutyTok ER (recvC kd.2 (rs kd.1) c) (rd kd.1) false : sProp 𝕄))]
  rfl

theorem regroup :
    (bigSep Finset.univ fun c : Dev nD => iprop((bigSep Finset.univ fun k => known m (kcell (c, k)))
          ∗ (bigSep Finset.univ fun k : Fin 9 => iprop(atPos ER (kcell (c, k)) 0 ∅ 0 ∗ reached ER (kcell (c, k)) 0)) ∗ toks c ∗ rest0 c) : sProp 𝕄)
      ⊢ bigSep Finset.univ (G' m) := by
  rw [bigSep_sep', bigSep_sep', bigSep_sep', toks_around, ← bigSep_univ_prod (fun ck : Dev nD × Fin 9 => known m (kcell ck)),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨#HI, ⟨Hat, #HR⟩, Htok, Hrest⟩
  iapply (bigSep_with_persistent (R := recs₀ m)
    (Φ := fun c : Dev nD => iprop((bigSep Finset.univ fun k : Fin 9 => atPos ER (kcell (c, k)) 0 ∅ 0) ∗ payToks c ∗ rest0 c)) fun c _ => by
      unfold recs₀ G' pos
      iintro ⟨⟨#HI, #HR⟩, Hat, Htok, Hrest⟩
      isplitr
      · unfold recs₀; isplitr; · iexact HI
        iexact HR
      isplitl [Hat]
      · rw [bigSep_sep']
        isplitl [Hat]; · iexact Hat
        iapply (show (bigSep Finset.univ fun ci : Dev nD × Fin 9 => (reached ER (kcell ci) 0 : sProp 𝕄))
            ⊢ bigSep Finset.univ fun k : Fin 9 => reached ER (kcell (c, k)) 0 from
          (bigSep_of_persistent Finset.univ _).trans (bigSep_mono fun k _ => bigSep_elim (Finset.mem_univ (c, k))))
        iexact HR
      isplitl [Htok] <;> iassumption)
  isplitr
  · unfold recs₀; isplitr; · iexact HI
    iexact HR
  rw [bigSep_sep', bigSep_sep']
  isplitl [Hat]; · iexact Hat
  isplitl [Htok] <;> iassumption

/-- The global step: the semaphores of all devices at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What the other devices owe device `c` at hop `k`. -/
def hopCred (c : Dev nD) (k : ℕ) : sProp 𝕄 :=
  iprop(cred (tallyAt (barC c) k 2) ∗ cred (tallyAt (recvC true (rs k) c) k N) ∗ cred (tallyAt (recvC false (rs k) c) k N))

/-- What they owe it with `n` hops still to come. -/
def hopCreds (c : Dev nD) : ℕ → sProp 𝕄
  | 0 => iprop(emp)
  | n + 1 => iprop(hopCreds c n ∗ hopCred c (5 - n))

theorem cred_bar (d : Bool) (k : ℕ) (c : Dev nD) :
    (Pipeline.launchCred (oweB d k) c : sProp 𝕄) ⊢ cred (tallyAt (barC c) k 1) :=
  Pipeline.launchCred_tallyAt (.reg barS) (fr d) (go d) (fr_go d) (go_fr d) k 1 c
theorem cred_recv (d : Bool) (k : ℕ) (c : Dev nD) :
    (Pipeline.launchCred (oweR d k) c : sProp 𝕄) ⊢ cred (tallyAt (recvC d (rs k) c) k N) :=
  Pipeline.launchCred_tallyAt (.dma (recvQ d (rs k))) (go d) (fr d) (go_fr d) (fr_go d) k N c

theorem creds (c : Dev nD) : ∀ n, (Pipeline.launchCred (fun d => rem d n) c : sProp 𝕄) ⊢ hopCreds c n
  | 0 => Entails.of_eq (Pipeline.launchCred_zero c)
  | n + 1 => by
    rw [show (fun d : Dev nD => rem d (n + 1)) = fun d => (((rem d n + oweR false (5 - n) d) + oweR true (5 - n) d) + oweB false (5 - n) d) + oweB true (5 - n) d from rfl,
      Pipeline.launchCred_add, Pipeline.launchCred_add, Pipeline.launchCred_add, Pipeline.launchCred_add]
    unfold hopCreds hopCred
    iintro ⟨⟨⟨⟨H, Hf⟩, Ht⟩, HB⟩, HB'⟩
    isplitl [H]; · iapply (creds c n); iexact H
    isplitl [HB HB']
    · rw [show (tallyAt (barC c) (5 - n) 2 : CellTallies nD τ sig ℕ) = tallyAt (barC c) (5 - n) 1 + tallyAt (barC c) (5 - n) 1 from (tallyAt_add _ _ 1 1).symm]
      iapply (cred_add _ _).2
      isplitl [HB]
      · iapply (cred_bar false (5 - n) c); iexact HB
      · iapply (cred_bar true (5 - n) c); iexact HB'
    isplitl [Ht]
    · iapply (cred_recv true (5 - n) c); iexact Ht
    · iapply (cred_recv false (5 - n) c); iexact Hf

end Cert.KernelIdeal.Ring

end
-- ==== Proof.Mem.lean ====
/-
# The device's memory, cut into the pieces that move

The operands are cut into the chunks that the copies read (of half of the device's share: the other half stays whole, so that the
operands are seen unchanged at the end), the result into its eight pieces, each ring buffer into its two slots; and back.
-/
module

public import proofs.«01_k».proof.Proof.Ghost

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg)

/-! ## The element sets -/

abbrev P8 : Type := Bool × Dev nD

theorem orect_mem (d : Bool) (j : Dev nD) (i : S2048x2048.Idx) : i ∈ (orect d j).set ↔ row d j ≤ (i 0).val ∧ (i 0).val < row d j + 256 := by
  rw [Rect.mem_set_unit]
  constructor
  · intro h; exact h 0
  · intro h a
    match a with
    | ⟨0, _⟩ => exact h
    | ⟨1, _⟩ => exact ⟨Nat.zero_le _, by have := (i 1).isLt; show (i 1).val < 0 + 2048; have h2 : S2048x2048.size 1 = 2048 := rfl; omega⟩

theorem irect_mem (d : Bool) (j : Dev nD) (i : S1x2048x2048.Idx) : i ∈ (irect d j).set ↔ row d j ≤ (i 1).val ∧ (i 1).val < row d j + 256 := by
  rw [Rect.mem_set_unit]
  constructor
  · intro h; exact h 1
  · intro h a
    match a with
    | ⟨0, _⟩ => exact ⟨Nat.zero_le _, by have := (i 0).isLt; show (i 0).val < 0 + 1; have h2 : S1x2048x2048.size 0 = 1 := rfl; omega⟩
    | ⟨1, _⟩ => exact h
    | ⟨2, _⟩ => exact ⟨Nat.zero_le _, by have := (i 2).isLt; show (i 2).val < 0 + 2048; have h2 : S1x2048x2048.size 2 = 2048 := rfl; omega⟩

theorem srect_mem (s : Bool) (i : S2x256x2048.Idx) : i ∈ (srect s).set ↔ (i 0).val = if s then 1 else 0 := by
  rw [Rect.mem_set_unit]
  constructor
  · intro h
    obtain ⟨h1, h2⟩ := h 0
    have h1' : (if s then 1 else 0) ≤ (i 0).val := h1
    have h2' : (i 0).val < (if s then 1 else 0) + 1 := h2
    omega
  · intro h a
    match a with
    | ⟨0, _⟩ => show (if s then 1 else 0) ≤ (i 0).val ∧ (i 0).val < (if s then 1 else 0) + 1; omega
    | ⟨1, _⟩ => exact ⟨Nat.zero_le _, by have := (i 1).isLt; show (i 1).val < 0 + 256; have h2 : S2x256x2048.size 1 = 256 := rfl; omega⟩
    | ⟨2, _⟩ => exact ⟨Nat.zero_le _, by have := (i 2).isLt; show (i 2).val < 0 + 2048; have h2 : S2x256x2048.size 2 = 2048 := rfl; omega⟩

/-- Rows of two different pieces differ. -/
theorem row_apart (t t' : P8) (h : t ≠ t') : row t.1 t.2 + 256 ≤ row t'.1 t'.2 ∨ row t'.1 t'.2 + 256 ≤ row t.1 t.2 := by
  revert t t'; decide +kernel
/-- Every row lies in a piece. -/
theorem row_in (n : ℕ) (h : n < 2048) : row (decide (n % 512 < 256)) ⟨n / 512, Nat.div_lt_of_lt_mul h⟩ ≤ n
    ∧ n < row (decide (n % 512 < 256)) ⟨n / 512, Nat.div_lt_of_lt_mul h⟩ + 256 := by
  unfold row
  by_cases hn : n % 512 < 256
  · simp only [hn, decide_true, if_true]; omega
  · simp only [hn, decide_false]; simp only [Bool.false_eq_true, if_false]; omega

def oset (t : P8) : Finset S2048x2048.Idx := (orect t.1 t.2).set
def iset (t : P8) : Finset S1x2048x2048.Idx := (irect t.1 t.2).set
def sset (s : Bool) : Finset S2x256x2048.Idx := (srect s).set

theorem oset_disj (t t' : P8) (h : t ≠ t') : Disjoint (oset t) (oset t') :=
  Finset.disjoint_left.mpr fun i hi hi' => by
    unfold oset at hi hi'; rw [orect_mem] at hi hi'
    rcases row_apart t t' h with h | h <;> omega
theorem iset_disj (t t' : P8) (h : t ≠ t') : Disjoint (iset t) (iset t') :=
  Finset.disjoint_left.mpr fun i hi hi' => by
    unfold iset at hi hi'; rw [irect_mem] at hi hi'
    rcases row_apart t t' h with h | h <;> omega
theorem sset_disj (t t' : Bool) (h : t ≠ t') : Disjoint (sset t) (sset t') :=
  Finset.disjoint_left.mpr fun i hi hi' => by
    unfold sset at hi hi'; rw [srect_mem] at hi hi'
    revert h hi hi'; cases t <;> cases t' <;> simp <;> omega

theorem oset_cover : (Finset.univ : Finset P8).biUnion oset = Finset.univ := by
  ext i
  simp only [Finset.mem_biUnion, Finset.mem_univ, true_and, iff_true]
  refine ⟨(decide ((i 0).val % 512 < 256), ⟨(i 0).val / 512, Nat.div_lt_of_lt_mul (show (i 0).val < 512 * 4 from (i 0).isLt)⟩), ?_⟩
  unfold oset; rw [orect_mem]
  exact row_in (i 0).val (i 0).isLt
theorem iset_cover : (Finset.univ : Finset P8).biUnion iset = Finset.univ := by
  ext i
  simp only [Finset.mem_biUnion, Finset.mem_univ, true_and, iff_true]
  refine ⟨(decide ((i 1).val % 512 < 256), ⟨(i 1).val / 512, Nat.div_lt_of_lt_mul (show (i 1).val < 512 * 4 from (i 1).isLt)⟩), ?_⟩
  unfold iset; rw [irect_mem]
  exact row_in (i 1).val (i 1).isLt
theorem sset_cover : (Finset.univ : Finset Bool).biUnion sset = Finset.univ := by
  ext i
  simp only [Finset.mem_biUnion, Finset.mem_univ, true_and, iff_true]
  refine ⟨decide ((i 0).val = 1), ?_⟩
  unfold sset; rw [srect_mem]
  have : (i 0).val < 2 := (i 0).isLt
  by_cases h : (i 0).val = 1
  · simp [h]
  · simp only [h, decide_false]; simp; omega

theorem set_out (t : P8) : (out t.1 t.2).view.set = oset t := View.set_slice_whole _ _
theorem set_inp (t : P8) : (inp t.1 t.2).view.set = iset t := (View.set_reshape _ _).trans (View.set_slice_whole _ _)
theorem set_slotT (s : Bool) : (slot true s).view.set = sset s := (View.set_reshape _ _).trans (View.set_slice_whole _ _)
theorem set_slotF (s : Bool) : (slot false s).view.set = sset s := (View.set_reshape _ _).trans (View.set_slice_whole _ _)

/-! ## The pieces as a list -/

theorem bigSep_eight (Φ : P8 → sProp 𝕄) :
    bigSep Finset.univ Φ = iprop(Φ (true, 0) ∗ Φ (true, 1) ∗ Φ (true, 2) ∗ Φ (true, 3) ∗ Φ (false, 0) ∗ Φ (false, 1) ∗ Φ (false, 2) ∗ Φ (false, 3)) := by
  rw [bigSep_univ_eq_bigSepL [(true, 0), (true, 1), (true, 2), (true, 3), (false, 0), (false, 1), (false, 2), (false, 3)] (by decide) (by decide)]; rfl
theorem bigSep_bool (Φ : Bool → sProp 𝕄) : bigSep Finset.univ Φ = iprop(Φ true ∗ Φ false) := by
  rw [bigSep_univ_eq_bigSepL [true, false] (by decide) (by decide)]; rfl

/-- The four pieces of direction `true` and the four of `false`, in the orders in which device `c` meets them. -/
theorem bigSep_turn (c : Dev nD) (e e' : Fin 4 → Dev nD) (he : Function.Injective e) (he' : Function.Injective e') (Φ : P8 → sProp 𝕄) :
    bigSep Finset.univ Φ = iprop((Φ (true, e 0) ∗ Φ (true, e 1) ∗ Φ (true, e 2) ∗ Φ (true, e 3))
      ∗ Φ (false, e' 0) ∗ Φ (false, e' 1) ∗ Φ (false, e' 2) ∗ Φ (false, e' 3)) := by
  rw [bigSep_univ_prod, bigSep_bool,
    bigSep_univ_equiv (Equiv.ofBijective e (Finite.injective_iff_bijective.mp he)) (fun j => Φ (true, j)),
    bigSep_univ_equiv (Equiv.ofBijective e' (Finite.injective_iff_bijective.mp he')) (fun j => Φ (false, j)),
    bigSep_univ_eq_bigSepL [0, 1, 2, 3] (by decide) (by decide), bigSep_univ_eq_bigSepL [0, 1, 2, 3] (by decide) (by decide)]
  rfl

/-! ## Cutting and joining -/

section Pieces
variable (c : Dev nD)

theorem whole_pb (d : Bool) : (∃ f, ((c : Thread nD τ).loc (if d then cc0_scratch2 else cc0_scratch3)) ↦{fullShare} f : sProp 𝕄) ⊢ pbAny c d := by
  cases d
  all_goals
    unfold pbAny owns
    iintro ⟨%f, H⟩
    iexists _; iexists f
    isplitr; · ipureintro; rfl
    simp only [pbuf, Memref.view_whole, View.set_whole]
    iexact H

theorem pb_whole (d : Bool) (X : Blk F) : pb c d X ⊢ (∃ f, ((c : Thread nD τ).loc (if d then cc0_scratch2 else cc0_scratch3)) ↦{fullShare} f : sProp 𝕄) := by
  cases d
  all_goals
    unfold pb owns
    iintro ⟨%f, -, H⟩
    iexists f
    simp only [pbuf, Memref.view_whole, View.set_whole]
    iexact H

theorem whole_rb : (∃ f, ((c : Thread nD τ).loc cc0_scratch4) ↦{fullShare} f : sProp 𝕄) ⊢ rbAny c := by
  unfold rbAny owns
  iintro ⟨%f, H⟩
  iexists _; iexists f
  isplitr; · ipureintro; rfl
  simp only [Memref.view_whole, View.set_whole]
  iexact H

theorem rb_whole : rb m c ⊢ (∃ f, ((c : Thread nD τ).loc cc0_scratch4) ↦{fullShare} f : sProp 𝕄) := by
  unfold rb owns
  iintro ⟨%f, -, H⟩
  iexists f
  simp only [Memref.view_whole, View.set_whole]
  iexact H

/-- A ring buffer is its two slots. -/
theorem whole_slT : (∃ f, ((c : Thread nD τ).loc cc0_scratch0) ↦{fullShare} f : sProp 𝕄) ⊢ iprop(slAny c true true ∗ slAny c true false) := by
  iintro ⟨%f, H⟩
  ihave H := (Entails.of_eq ((show (((c : Thread nD τ).loc cc0_scratch0) ↦{fullShare} f : sProp 𝕄)
      = ((c : Thread nD τ).loc cc0_scratch0) ↦[(Finset.univ : Finset Bool).biUnion sset]{fullShare} f by rw [sset_cover]).trans
    ((pointsTo_biUnion (ℓ := (c : Thread nD τ).loc cc0_scratch0) Finset.univ sset fun t _ t' _ h => sset_disj t t' h).trans (bigSep_bool _)))) $$ H
  icases H with ⟨H1, H2⟩
  unfold slAny owns
  isplitl [H1]
  · iexists _; iexists f
    isplitr; · ipureintro; rfl
    rw [set_slotT]; iexact H1
  · iexists _; iexists f
    isplitr; · ipureintro; rfl
    rw [set_slotT]; iexact H2

theorem whole_slF : (∃ f, ((c : Thread nD τ).loc cc0_scratch1) ↦{fullShare} f : sProp 𝕄) ⊢ iprop(slAny c false true ∗ slAny c false false) := by
  iintro ⟨%f, H⟩
  ihave H := (Entails.of_eq ((show (((c : Thread nD τ).loc cc0_scratch1) ↦{fullShare} f : sProp 𝕄)
      = ((c : Thread nD τ).loc cc0_scratch1) ↦[(Finset.univ : Finset Bool).biUnion sset]{fullShare} f by rw [sset_cover]).trans
    ((pointsTo_biUnion (ℓ := (c : Thread nD τ).loc cc0_scratch1) Finset.univ sset fun t _ t' _ h => sset_disj t t' h).trans (bigSep_bool _)))) $$ H
  icases H with ⟨H1, H2⟩
  unfold slAny owns
  isplitl [H1]
  · iexists _; iexists f
    isplitr; · ipureintro; rfl
    rw [set_slotF]; iexact H1
  · iexists _; iexists f
    isplitr; · ipureintro; rfl
    rw [set_slotF]; iexact H2

theorem slT_whole (X Y : Blk F) : iprop(sl c true true X ∗ sl c true false Y) ⊢ (∃ f, ((c : Thread nD τ).loc cc0_scratch0) ↦{fullShare} f : sProp 𝕄) := by
  unfold sl owns
  rw [set_slotT, set_slotT]
  iintro ⟨⟨%f, -, H1⟩, ⟨%g, -, H2⟩⟩
  iexists _
  ihave H := (pointsTo_join (ℓ := (c : Thread nD τ).loc cc0_scratch0) (sset_disj true false (by decide))) $$ [H1 H2]
  · isplitl [H1]; · iexact H1
    iexact H2
  rw [show sset true ∪ sset false = Finset.univ from by rw [← sset_cover]; ext i; simp]
  iexact H

theorem slF_whole (X Y : Blk F) : iprop(sl c false true X ∗ sl c false false Y) ⊢ (∃ f, ((c : Thread nD τ).loc cc0_scratch1) ↦{fullShare} f : sProp 𝕄) := by
  unfold sl owns
  rw [set_slotF, set_slotF]
  iintro ⟨⟨%f, -, H1⟩, ⟨%g, -, H2⟩⟩
  iexists _
  ihave H := (pointsTo_join (ℓ := (c : Thread nD τ).loc cc0_scratch1) (sset_disj true false (by decide))) $$ [H1 H2]
  · isplitl [H1]; · iexact H1
    iexact H2
  rw [show sset true ∪ sset false = Finset.univ from by rw [← sset_cover]; ext i; simp]
  iexact H

theorem in_piece (t : P8) : (((c : Thread nD τ).loc main_arg0) ↦[iset t]{rd₀} m ((c : Thread nD τ).loc main_arg0) : sProp 𝕄) ⊢ inO m c t.1 t.2 := by
  unfold inO owns
  rw [set_inp t]
  iintro H
  iexists _
  isplitr; · ipureintro; rfl
  iexact H

/-- `partial`, to read, is its eight pieces. -/
theorem whole_in : (((c : Thread nD τ).loc main_arg0) ↦{rd₀} m ((c : Thread nD τ).loc main_arg0) : sProp 𝕄)
    ⊢ bigSep Finset.univ fun t : P8 => inO m c t.1 t.2 := by
  rw [show (((c : Thread nD τ).loc main_arg0) ↦{rd₀} m ((c : Thread nD τ).loc main_arg0) : sProp 𝕄)
      = ((c : Thread nD τ).loc main_arg0) ↦[(Finset.univ : Finset P8).biUnion iset]{rd₀} m ((c : Thread nD τ).loc main_arg0) by rw [iset_cover],
    pointsTo_biUnion (ℓ := (c : Thread nD τ).loc main_arg0) Finset.univ iset fun t _ t' _ h => iset_disj t t' h]
  exact bigSep_mono fun t _ => in_piece m c t

/-- Chunk `c` of `resid`, to read. -/
theorem whole_res : (((c : Thread nD τ).loc main_arg1) ↦{rd₀} m ((c : Thread nD τ).loc main_arg1) : sProp 𝕄) ⊢ resO m c := by
  unfold resO owns
  iintro H
  ihave H := (pointsTo_split_subset (ℓ := (c : Thread nD τ).loc main_arg1) (Finset.subset_univ (res c).view.set)).1 $$ H
  icases H with ⟨H, -⟩
  iexists _
  isplitr; · ipureintro; rfl
  iexact H

theorem out_any (f : Buf (Elt F) ((c : Thread nD τ).loc main_v1)) (t : P8) :
    (((c : Thread nD τ).loc main_v1) ↦[oset t]{fullShare} f : sProp 𝕄) ⊢ outAny c t.1 t.2 := by
  unfold outAny owns
  rw [set_out t]
  iintro H
  iexists (out t.1 t.2).view.read (Elt F) f; iexists f
  isplitr; · ipureintro; rfl
  iexact H

/-- The result, before it is written, is its eight pieces. -/
theorem whole_out (f : Buf (Elt F) ((c : Thread nD τ).loc main_v1)) : (((c : Thread nD τ).loc main_v1) ↦{fullShare} f : sProp 𝕄)
    ⊢ bigSep Finset.univ fun t : P8 => outAny c t.1 t.2 := by
  rw [show (((c : Thread nD τ).loc main_v1) ↦{fullShare} f : sProp 𝕄)
      = ((c : Thread nD τ).loc main_v1) ↦[(Finset.univ : Finset P8).biUnion oset]{fullShare} f by rw [oset_cover],
    pointsTo_biUnion (ℓ := (c : Thread nD τ).loc main_v1) Finset.univ oset fun t _ t' _ h => oset_disj t t' h]
  exact bigSep_mono fun t _ => out_any c f t

/-- A piece of the result in its place. -/
theorem outV_emb (d : Bool) (j : Dev nD) (x : S256x2048.Idx) : outV m ((orect d j).emb x) = fin m d j x := by
  have h0 : (((orect d j).emb x) 0).val = row d j + (x 0).val := by rw [Rect.emb_apply]; simp [orect, ooff]
  have h1 : (((orect d j).emb x) 1).val = (x 1).val := by rw [Rect.emb_apply]; simp [orect, ooff]
  have hx : (x 0).val < 256 := (x 0).isLt
  unfold outV
  have e1 : decide ((((orect d j).emb x) 0).val % 512 < 256) = d := by
    rw [h0]; unfold row; cases d
    · simp; omega
    · simp; omega
  have e2 : (((orect d j).emb x) 0).val / 512 = j.val := by
    rw [h0]; unfold row; cases d
    · simp; omega
    · simp; omega
  have e3 : (((orect d j).emb x) 0).val % 256 = (x 0).val := by
    rw [h0]; unfold row; cases d
    · simp; omega
    · simp; omega
  rw [e1]
  have e2' : (⟨(((orect d j).emb x) 0).val / 512, by rw [e2]; exact j.isLt⟩ : Dev nD) = j := Fin.ext e2
  rw [e2']
  congr 1
  funext a
  match a with
  | ⟨0, _⟩ => exact Fin.ext e3
  | ⟨1, _⟩ => exact Fin.ext h1

theorem out_piece (d : Bool) (j : Dev nD) : outO m c d j ⊢ (((c : Thread nD τ).loc main_v1) ↦[oset (d, j)]{fullShare} outV m : sProp 𝕄) := by
  unfold outO owns
  rw [set_out (d, j)]
  iintro ⟨%f, %hf, H⟩
  rw [show (((c : Thread nD τ).loc main_v1) ↦[oset (d, j)]{fullShare} outV m : sProp 𝕄) = (((c : Thread nD τ).loc main_v1) ↦[oset (d, j)]{fullShare} f) from
    pointsTo_congr (ℓ := (c : Thread nD τ).loc main_v1) fun i hi => by
      rw [← set_out (d, j)] at hi
      obtain ⟨x, -, rfl⟩ := Finset.mem_map.mp hi
      have := congrFun hf x
      exact (outV_emb m d j x).trans this.symm]
  iexact H

theorem out_whole : (bigSep Finset.univ fun t : P8 => outO m c t.1 t.2) ⊢ (((c : Thread nD τ).loc main_v1) ↦{fullShare} outV m : sProp 𝕄) := by
  rw [show (((c : Thread nD τ).loc main_v1) ↦{fullShare} outV m : sProp 𝕄)
      = ((c : Thread nD τ).loc main_v1) ↦[(Finset.univ : Finset P8).biUnion oset]{fullShare} outV m by rw [oset_cover],
    pointsTo_biUnion (ℓ := (c : Thread nD τ).loc main_v1) Finset.univ oset fun t _ t' _ h => oset_disj t t' h]
  exact bigSep_mono fun t _ => out_piece m c t.1 t.2

end Pieces

end Cert.KernelIdeal.Ring

end
-- ==== Proof.Run.lean ====
/-
# The run

The proof data of the kernel's one grid point, the body's obligation, and the run of the whole program from any memory: every
device ends with the normalized sum in its result, its operands as they were and every semaphore at rest.
-/
module

public import proofs.«01_k».proof.Proof.Mem

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg)

/-! ## What a device starts with, one by one -/

section One
variable (c : Dev nD)

theorem bigSep_twelve (Φ : KD → sProp 𝕄) : bigSep Finset.univ Φ = iprop(Φ (0, true) ∗ Φ (0, false) ∗ Φ (1, true) ∗ Φ (1, false) ∗ Φ (2, true) ∗ Φ (2, false)
    ∗ Φ (3, true) ∗ Φ (3, false) ∗ Φ (4, true) ∗ Φ (4, false) ∗ Φ (5, true) ∗ Φ (5, false)) := by
  rw [bigSep_univ_eq_bigSepL [(0, true), (0, false), (1, true), (1, false), (2, true), (2, false), (3, true), (3, false), (4, true), (4, false), (5, true), (5, false)]
    (by decide) (by decide)]; rfl

theorem payToks_list : (payToks c : sProp 𝕄) ⊢ iprop(dutyTok ER (barC (fr true c)) 0 true ∗ dutyTok ER (sendC true false c) 0 false ∗ dutyTok ER (recvC true true (go true c)) 0 false ∗
    dutyTok ER (barC (fr false c)) 0 false ∗ dutyTok ER (sendC false false c) 0 false ∗ dutyTok ER (recvC false true (go false c)) 0 false ∗
    dutyTok ER (barC (fr true c)) 1 true ∗ dutyTok ER (sendC true true c) 0 false ∗ dutyTok ER (recvC true false (go true c)) 0 false ∗
    dutyTok ER (barC (fr false c)) 1 false ∗ dutyTok ER (sendC false true c) 0 false ∗ dutyTok ER (recvC false false (go false c)) 0 false ∗
    dutyTok ER (barC (fr true c)) 2 true ∗ dutyTok ER (sendC true false c) 1 false ∗ dutyTok ER (recvC true true (go true c)) 1 false ∗
    dutyTok ER (barC (fr false c)) 2 false ∗ dutyTok ER (sendC false false c) 1 false ∗ dutyTok ER (recvC false true (go false c)) 1 false ∗
    dutyTok ER (barC (fr true c)) 3 true ∗ dutyTok ER (sendC true false c) 2 false ∗ dutyTok ER (recvC true true (go true c)) 2 false ∗
    dutyTok ER (barC (fr false c)) 3 false ∗ dutyTok ER (sendC false false c) 2 false ∗ dutyTok ER (recvC false true (go false c)) 2 false ∗
    dutyTok ER (barC (fr true c)) 4 true ∗ dutyTok ER (sendC true true c) 1 false ∗ dutyTok ER (recvC true false (go true c)) 1 false ∗
    dutyTok ER (barC (fr false c)) 4 false ∗ dutyTok ER (sendC false true c) 1 false ∗ dutyTok ER (recvC false false (go false c)) 1 false ∗
    dutyTok ER (barC (fr true c)) 5 true ∗ dutyTok ER (sendC true false c) 3 false ∗ dutyTok ER (recvC true true (go true c)) 3 false ∗
    dutyTok ER (barC (fr false c)) 5 false ∗ dutyTok ER (sendC false false c) 3 false ∗ dutyTok ER (recvC false true (go false c)) 3 false) := by
  unfold payToks
  rw [bigSep_twelve]
  iintro ⟨⟨Tb0t, Ts0t, Tr0t⟩, ⟨Tb0f, Ts0f, Tr0f⟩, ⟨Tb1t, Ts1t, Tr1t⟩, ⟨Tb1f, Ts1f, Tr1f⟩, ⟨Tb2t, Ts2t, Tr2t⟩, ⟨Tb2f, Ts2f, Tr2f⟩, ⟨Tb3t, Ts3t, Tr3t⟩, ⟨Tb3f, Ts3f, Tr3f⟩, ⟨Tb4t, Ts4t, Tr4t⟩, ⟨Tb4f, Ts4f, Tr4f⟩, ⟨Tb5t, Ts5t, Tr5t⟩, ⟨Tb5f, Ts5f, Tr5f⟩⟩
  isplitl [Tb0t]; · iexact Tb0t
  isplitl [Ts0t]; · iexact Ts0t
  isplitl [Tr0t]; · iexact Tr0t
  isplitl [Tb0f]; · iexact Tb0f
  isplitl [Ts0f]; · iexact Ts0f
  isplitl [Tr0f]; · iexact Tr0f
  isplitl [Tb1t]; · iexact Tb1t
  isplitl [Ts1t]; · iexact Ts1t
  isplitl [Tr1t]; · iexact Tr1t
  isplitl [Tb1f]; · iexact Tb1f
  isplitl [Ts1f]; · iexact Ts1f
  isplitl [Tr1f]; · iexact Tr1f
  isplitl [Tb2t]; · iexact Tb2t
  isplitl [Ts2t]; · iexact Ts2t
  isplitl [Tr2t]; · iexact Tr2t
  isplitl [Tb2f]; · iexact Tb2f
  isplitl [Ts2f]; · iexact Ts2f
  isplitl [Tr2f]; · iexact Tr2f
  isplitl [Tb3t]; · iexact Tb3t
  isplitl [Ts3t]; · iexact Ts3t
  isplitl [Tr3t]; · iexact Tr3t
  isplitl [Tb3f]; · iexact Tb3f
  isplitl [Ts3f]; · iexact Ts3f
  isplitl [Tr3f]; · iexact Tr3f
  isplitl [Tb4t]; · iexact Tb4t
  isplitl [Ts4t]; · iexact Ts4t
  isplitl [Tr4t]; · iexact Tr4t
  isplitl [Tb4f]; · iexact Tb4f
  isplitl [Ts4f]; · iexact Ts4f
  isplitl [Tr4f]; · iexact Tr4f
  isplitl [Tb5t]; · iexact Tb5t
  isplitl [Ts5t]; · iexact Ts5t
  isplitl [Tr5t]; · iexact Tr5t
  isplitl [Tb5f]; · iexact Tb5f
  isplitl [Ts5f]; · iexact Ts5f
  iexact Tr5f

theorem hopCreds_list : (hopCreds c 6 : sProp 𝕄) ⊢ iprop(cred (tallyAt (barC c) 0 2) ∗ cred (tallyAt (recvC true true c) 0 N) ∗ cred (tallyAt (recvC false true c) 0 N) ∗
    cred (tallyAt (barC c) 1 2) ∗ cred (tallyAt (recvC true false c) 1 N) ∗ cred (tallyAt (recvC false false c) 1 N) ∗
    cred (tallyAt (barC c) 2 2) ∗ cred (tallyAt (recvC true true c) 2 N) ∗ cred (tallyAt (recvC false true c) 2 N) ∗
    cred (tallyAt (barC c) 3 2) ∗ cred (tallyAt (recvC true true c) 3 N) ∗ cred (tallyAt (recvC false true c) 3 N) ∗
    cred (tallyAt (barC c) 4 2) ∗ cred (tallyAt (recvC true false c) 4 N) ∗ cred (tallyAt (recvC false false c) 4 N) ∗
    cred (tallyAt (barC c) 5 2) ∗ cred (tallyAt (recvC true true c) 5 N) ∗ cred (tallyAt (recvC false true c) 5 N)) := by
  simp only [hopCreds, hopCred]
  iintro ⟨⟨⟨⟨⟨⟨-, ⟨Cb5, Cr5t, Cr5f⟩⟩, ⟨Cb4, Cr4t, Cr4f⟩⟩, ⟨Cb3, Cr3t, Cr3f⟩⟩, ⟨Cb2, Cr2t, Cr2f⟩⟩, ⟨Cb1, Cr1t, Cr1f⟩⟩, ⟨Cb0, Cr0t, Cr0f⟩⟩
  isplitl [Cb0]; · iexact Cb0
  isplitl [Cr0t]; · iexact Cr0t
  isplitl [Cr0f]; · iexact Cr0f
  isplitl [Cb1]; · iexact Cb1
  isplitl [Cr1t]; · iexact Cr1t
  isplitl [Cr1f]; · iexact Cr1f
  isplitl [Cb2]; · iexact Cb2
  isplitl [Cr2t]; · iexact Cr2t
  isplitl [Cr2f]; · iexact Cr2f
  isplitl [Cb3]; · iexact Cb3
  isplitl [Cr3t]; · iexact Cr3t
  isplitl [Cr3f]; · iexact Cr3f
  isplitl [Cb4]; · iexact Cb4
  isplitl [Cr4t]; · iexact Cr4t
  isplitl [Cr4f]; · iexact Cr4f
  isplitl [Cb5]; · iexact Cb5
  isplitl [Cr5t]; · iexact Cr5t
  iexact Cr5f

theorem pos_list : (bigSep Finset.univ fun k : Fin 9 => (pos (kcell (c, k)) 0 : sProp 𝕄)) ⊢ iprop(pos (barC c) 0 ∗ pos (sendC true false c) 0 ∗ pos (sendC true true c) 0 ∗ pos (recvC true false c) 0 ∗ pos (recvC true true c) 0 ∗
    pos (sendC false false c) 0 ∗ pos (sendC false true c) 0 ∗ pos (recvC false false c) 0 ∗ pos (recvC false true c) 0) := by
  rw [bigSep_nine]; exact Entails.refl _

theorem in_list : (bigSep Finset.univ fun t : P8 => inO m c t.1 t.2) ⊢ iprop(inO m c true (sh 3 c) ∗ inO m c true (sh 6 c) ∗ inO m c true (sh 5 c) ∗ inO m c true (sh 4 c) ∗ inO m c false (sh 1 c) ∗
    inO m c false (sh 2 c) ∗ inO m c false (sh 3 c) ∗ inO m c false (sh 4 c)) := by
  rw [bigSep_turn c ![sh 3 c, sh 6 c, sh 5 c, sh 4 c] ![sh 1 c, sh 2 c, sh 3 c, sh 4 c] (by revert c; decide +kernel) (by revert c; decide +kernel)]
  iintro ⟨⟨It3, It6, It5, It4⟩, If1, If2, If3, If4⟩
  isplitl [It3]; · iexact It3
  isplitl [It6]; · iexact It6
  isplitl [It5]; · iexact It5
  isplitl [It4]; · iexact It4
  isplitl [If1]; · iexact If1
  isplitl [If2]; · iexact If2
  isplitl [If3]; · iexact If3
  iexact If4

theorem out_list : (bigSep Finset.univ fun t : P8 => (outAny c t.1 t.2 : sProp 𝕄)) ⊢ iprop(outAny c true c ∗ outAny c true (fr true c) ∗ outAny c true (fr true (fr true c)) ∗ outAny c true (fr true (fr true (fr true c))) ∗
    outAny c false c ∗ outAny c false (fr false c) ∗ outAny c false (fr false (fr false c)) ∗ outAny c false (fr false (fr false (fr false c)))) := by
  rw [bigSep_turn c ![c, fr true c, fr true (fr true c), fr true (fr true (fr true c))] ![c, fr false c, fr false (fr false c), fr false (fr false (fr false c))]
    (by revert c; decide +kernel) (by revert c; decide +kernel)]
  iintro ⟨⟨Ot0, Ot1, Ot2, Ot3⟩, Of0, Of1, Of2, Of3⟩
  isplitl [Ot0]; · iexact Ot0
  isplitl [Ot1]; · iexact Ot1
  isplitl [Ot2]; · iexact Ot2
  isplitl [Ot3]; · iexact Ot3
  isplitl [Of0]; · iexact Of0
  isplitl [Of1]; · iexact Of1
  isplitl [Of2]; · iexact Of2
  iexact Of3

theorem outO_list : iprop(outO m c true c ∗ outO m c true (fr true c) ∗ outO m c true (fr true (fr true c)) ∗ outO m c true (fr true (fr true (fr true c))) ∗
    outO m c false c ∗ outO m c false (fr false c) ∗ outO m c false (fr false (fr false c)) ∗ outO m c false (fr false (fr false (fr false c)))) ⊢ bigSep Finset.univ fun t : P8 => outO m c t.1 t.2 := by
  rw [bigSep_turn c ![c, fr true c, fr true (fr true c), fr true (fr true (fr true c))] ![c, fr false c, fr false (fr false c), fr false (fr false (fr false c))]
    (by revert c; decide +kernel) (by revert c; decide +kernel)]
  iintro ⟨Ot0, Ot1, Ot2, Ot3, Of0, Of1, Of2, Of3⟩
  isplitl [Ot0 Ot1 Ot2 Ot3]
  · isplitl [Ot0]; · iexact Ot0
    isplitl [Ot1]; · iexact Ot1
    isplitl [Ot2]; · iexact Ot2
    iexact Ot3
  isplitl [Of0]; · iexact Of0
  isplitl [Of1]; · iexact Of1
  isplitl [Of2]; · iexact Of2
  iexact Of3

/-- A semaphore whose rounds are all collected is closed. -/
theorem close (g : GSem nD τ sig) (R : ℕ) (hk : recs m ⊢ known m g) (h : ∀ r, R ≤ r → (Rd (F := F) m).duties g r = ∅) :
    iprop(recs m ∗ pos g R) ⊢ (|={Set.univ}=> semVal g 0 : sProp 𝕄) := by
  unfold pos
  iintro ⟨#HR, Hat, -⟩
  ihave Hk := hk $$ HR
  unfold known
  icases Hk with ⟨%κ, #Hk⟩
  iapply (Rounds.cell_close ER (Rd m) (Set.mem_univ κ) (fun h => h) (R := R) h)
  isplitr; · iexact Hk
  iexact Hat

/-! ## The proof data -/

/-- The parts of the operands' shares that no copy reads with. -/
def kept : sProp 𝕄 := iprop((((c : Thread nD τ).loc main_arg0) ↦{fullShare.left} m ((c : Thread nD τ).loc main_arg0))
  ∗ (((c : Thread nD τ).loc main_arg1) ↦{fullShare.left} m ((c : Thread nD τ).loc main_arg1)))

/-- What device `c`'s body starts from besides its scratch buffers. -/
def start : sProp 𝕄 :=
  iprop(recs m ∗ (bigSep Finset.univ fun k : Fin 9 => pos (kcell (c, k)) 0) ∗ payToks c ∗ rest0 c ∗ hopCreds c 6
    ∗ kept m c ∗ (bigSep Finset.univ fun t : P8 => inO m c t.1 t.2) ∗ resO m c ∗ (bigSep Finset.univ fun t : P8 => outAny c t.1 t.2))

/-- What it ends with: the operands' kept parts, the result, the barrier semaphore at rest. -/
def fine : sProp 𝕄 :=
  iprop(kept m c ∗ (((c : Thread nD τ).loc main_v1) ↦{fullShare} outV m) ∗ unscopedSems0 c)

abbrev own0 : sProp 𝕄 := Pipeline.ownSems0 (Ix := ℕ) (Name := ℕ) (U := UU) (Lvl := ℕ) (Val := Elt F) (τ := τ) osem c

def Φ₀ : sProp 𝕄 := iprop(start m c ∗ Pipeline.scopedRest cfg0.spec c)
def Φ₁ : sProp 𝕄 := iprop(fine m c ∗ own0 c ∗ Pipeline.scopedRest cfg0.spec c)

end One

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => gam m c
  Φ t := match t with
    | ⟨0, _⟩ => Φ₀ m c
    | ⟨_ + 1, _⟩ => Φ₁ m c
  q _ := fullShare
  owed t := match t with
    | ⟨0, _⟩ => rem c 6
    | ⟨_ + 1, _⟩ => 0

/-! ## The body -/

section Body
variable (c : Dev nD)

/-- What the body is handed, -/
def bodyPre : sProp 𝕄 := iprop(Φ₀ m c ∗ Ow c (rem c 6) ∗ gb m c)
/-- and what it gives back. -/
def bodyPost : sProp 𝕄 := iprop(Φ₁ m c ∗ Ow c 0 ∗ gb m c)

theorem close_send (d s : Bool) : iprop(recs m ∗ pos (sendC d s c) (rounds s)) ⊢ (|={Set.univ}=> semVal (sendC d s c) 0 : sProp 𝕄) :=
  close m _ _ (known_send m d s c) (later_send m d s c)
theorem close_recv (d s : Bool) : iprop(recs m ∗ pos (recvC d s c) (rounds (!s))) ⊢ (|={Set.univ}=> semVal (recvC d s c) 0 : sProp 𝕄) :=
  close m _ _ (known_recv m d s c) (later_recv m d s c)
theorem close_bar : iprop(recs m ∗ pos (barC c) 6) ⊢ (|={Set.univ}=> semVal (barC c) 0 : sProp 𝕄) :=
  close m _ _ (known_bar m c) (later_bar m c)

theorem body_end : iprop(recs m ∗ kept m c ∗ inO m c true (sh 3 c) ∗ inO m c false (sh 1 c) ∗ inO m c true (sh 6 c) ∗ inO m c false (sh 2 c) ∗ inO m c true (sh 5 c) ∗
    inO m c false (sh 3 c) ∗ inO m c true (sh 4 c) ∗ sem0 c 9 ∗ inO m c false (sh 4 c) ∗ sem0 c 10 ∗ pb c true (part m true c (sh 4 c)) ∗
    pb c false (part m false c (sh 4 c)) ∗ resO m c ∗ sem0 c 11 ∗ rb m c ∗ gb m c ∗ outO m c true c ∗ outO m c false c ∗
    outO m c true (fr true c) ∗ outO m c false (fr false c) ∗ pos (sendC true true c) 2 ∗ pos (recvC true false c) 2 ∗
    pos (sendC false true c) 2 ∗ pos (recvC false false c) 2 ∗ outO m c true (fr true (fr true c)) ∗ outO m c false (fr false (fr false c)) ∗
    pos (barC c) 6 ∗ pos (sendC true false c) 4 ∗ sl c true false (src m true 5 c) ∗ pos (recvC true true c) 4 ∗ pos (sendC false false c) 4 ∗
    sl c false false (src m false 5 c) ∗ pos (recvC false true c) 4 ∗ outO m c true (fr true (fr true (fr true c))) ∗
    outO m c false (fr false (fr false (fr false c))) ∗ sem0 c 12 ∗ Ow c (rem c 0) ∗
    sl c true true (fin m true (fr true (fr true (fr true c)))) ∗ sl c false true (fin m false (fr false (fr false (fr false c)))))
      ⊢ (|={Set.univ}=> bodyPost m c : sProp 𝕄) := by
  iintro ⟨#HR, HK, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38⟩
  imod (close_send m c true false) $$ [Q27] with Z0
  · isplitr; · iexact HR
    iexact Q27
  imod (close_send m c true true) $$ [Q20] with Z1
  · isplitr; · iexact HR
    iexact Q20
  imod (close_recv m c true false) $$ [Q21] with Z2
  · isplitr; · iexact HR
    iexact Q21
  imod (close_recv m c true true) $$ [Q29] with Z3
  · isplitr; · iexact HR
    iexact Q29
  imod (close_send m c false false) $$ [Q30] with Z4
  · isplitr; · iexact HR
    iexact Q30
  imod (close_send m c false true) $$ [Q22] with Z5
  · isplitr; · iexact HR
    iexact Q22
  imod (close_recv m c false false) $$ [Q23] with Z6
  · isplitr; · iexact HR
    iexact Q23
  imod (close_recv m c false true) $$ [Q32] with Z7
  · isplitr; · iexact HR
    iexact Q32
  imod (close_bar m c) $$ [Q26] with ZB
  · isplitr; · iexact HR
    iexact Q26
  imodintro
  unfold bodyPost Φ₁ fine own0
  rw [ownSems0_eq, unscopedSems0_eq, scopedRest0_eq]
  isplitr [Q36 Q15]
  · isplitl [HK ZB Q16 Q18 Q24 Q33 Q17 Q19 Q25 Q34]
    · isplitl [HK]; · iexact HK
      isplitl [Q16 Q18 Q24 Q33 Q17 Q19 Q25 Q34]
      · iapply (out_whole m c)
        iapply (outO_list m c)
        isplitl [Q16]; · iexact Q16
        isplitl [Q18]; · iexact Q18
        isplitl [Q24]; · iexact Q24
        isplitl [Q33]; · iexact Q33
        isplitl [Q17]; · iexact Q17
        isplitl [Q19]; · iexact Q19
        isplitl [Q25]; · iexact Q25
        iexact Q34
      iexact ZB
    isplitl [Z0 Z1 Z2 Z3 Z4 Z5 Z6 Z7 Q7 Q9 Q13 Q35]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Q7]; · iexact Q7
      isplitl [Q9]; · iexact Q9
      isplitl [Q13]; · iexact Q13
      iexact Q35
    isplitl [Q37 Q28]
    · iapply (slT_whole c _ _)
      isplitl [Q37]; · iexact Q37
      iexact Q28
    isplitl [Q38 Q31]
    · iapply (slF_whole c _ _)
      isplitl [Q38]; · iexact Q38
      iexact Q31
    isplitl [Q10]; · iapply (pb_whole c true _); iexact Q10
    isplitl [Q11]; · iapply (pb_whole c false _); iexact Q11
    iapply (rb_whole m c); iexact Q14
  isplitl [Q36]; · iexact Q36
  iexact Q15

theorem whole_pbT : (∃ f, ((c : Thread nD τ).loc cc0_scratch2) ↦{fullShare} f : sProp 𝕄) ⊢ pbAny c true := whole_pb c true
theorem whole_pbF : (∃ f, ((c : Thread nD τ).loc cc0_scratch3) ↦{fullShare} f : sProp 𝕄) ⊢ pbAny c false := whole_pb c false

theorem sound_body : bodyPre m c ⊢ wpc c (cc0_body (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) (fun _ => bodyPost m c) := by
  unfold bodyPre Φ₀ start rest0
  rw [scopedRest0_eq]
  iintro ⟨⟨⟨#HR, HP, HT, ⟨Z9, Z10, Z11, Z12⟩, HC, HK, HI, R, HO⟩, B0, B1, B2, B3, B4⟩, OW, GB⟩
  ihave H := (payToks_list c) $$ HT
  icases H with ⟨Tb0t, Ts0t, Tr0t, Tb0f, Ts0f, Tr0f, Tb1t, Ts1t, Tr1t, Tb1f, Ts1f, Tr1f, Tb2t, Ts2t, Tr2t, Tb2f, Ts2f, Tr2f, Tb3t, Ts3t, Tr3t, Tb3f, Ts3f, Tr3f, Tb4t, Ts4t, Tr4t, Tb4f, Ts4f, Tr4f, Tb5t, Ts5t, Tr5t, Tb5f, Ts5f, Tr5f⟩
  ihave H := (hopCreds_list c) $$ HC
  icases H with ⟨Cb0, Cr0t, Cr0f, Cb1, Cr1t, Cr1f, Cb2, Cr2t, Cr2f, Cb3, Cr3t, Cr3f, Cb4, Cr4t, Cr4f, Cb5, Cr5t, Cr5f⟩
  ihave H := (pos_list c) $$ HP
  icases H with ⟨P0, P1, P2, P3, P4, P5, P6, P7, P8⟩
  ihave H := (in_list m c) $$ HI
  icases H with ⟨It3, It6, It5, It4, If1, If2, If3, If4⟩
  ihave H := (out_list c) $$ HO
  icases H with ⟨Ot0, Ot1, Ot2, Ot3, Of0, Of1, Of2, Of3⟩
  ihave H := (whole_slT c) $$ B0
  icases H with ⟨S11, S10⟩
  ihave H := (whole_slF c) $$ B1
  icases H with ⟨S01, S00⟩
  ihave PBt := (whole_pbT c) $$ B2
  ihave PBf := (whole_pbF c) $$ B3
  ihave RB := (whole_rb c) $$ B4
  iapply (wp_fupd frame (wpE (defs₀ (F := F)) 𝒱₀ (c : Thread nD τ) none) Set.univ _ (fun _ => bodyPost m c))
  iapply (body_wp m c) $$ [S11 P4 OW Tb0t S01 P8 Tb0f Cb0 P0 R RB Z11 S10 It3 Z9 S00 If1 Z10 P1 Ts0t Tr0t P5 Ts0f Tr0f PBt It6 PBf If2 Cr0t Cr0f P3 Tb1t P7 Tb1f Cb1 P2 Ts1t Tr1t P6 Ts1f Tr1f It5 If3 Cr1t Cr1f Tb2t Tb2f Cb2 Ts2t Tr2t Ts2f Tr2f It4 If4 Cr2t Cr2f GB Ot0 Z12 Of0 Tb3t Tb3f Cb3 Ts3t Tr3t Ts3f Tr3f Cr3t Cr3f Ot1 Of1 Tb4t Tb4f Cb4 Ts4t Tr4t Ts4f Tr4f Cr4t Cr4f Ot2 Of2 Tb5t Tb5f Cb5 Ts5t Tr5t Ts5f Tr5f Cr5t Cr5f Ot3 Of3]
  · isplitr; · iexact HR
    isplitl [S11]; · iexact S11
    isplitl [P4]; · iexact P4
    isplitl [OW]; · iexact OW
    isplitl [Tb0t]; · iexact Tb0t
    isplitl [S01]; · iexact S01
    isplitl [P8]; · iexact P8
    isplitl [Tb0f]; · iexact Tb0f
    isplitl [Cb0]; · iexact Cb0
    isplitl [P0]; · iexact P0
    isplitl [R]; · iexact R
    isplitl [RB]; · iexact RB
    isplitl [Z11]; · iexact Z11
    isplitl [S10]; · iexact S10
    isplitl [It3]; · iexact It3
    isplitl [Z9]; · iexact Z9
    isplitl [S00]; · iexact S00
    isplitl [If1]; · iexact If1
    isplitl [Z10]; · iexact Z10
    isplitl [P1]; · iexact P1
    isplitl [Ts0t]; · iexact Ts0t
    isplitl [Tr0t]; · iexact Tr0t
    isplitl [P5]; · iexact P5
    isplitl [Ts0f]; · iexact Ts0f
    isplitl [Tr0f]; · iexact Tr0f
    isplitl [PBt]; · iexact PBt
    isplitl [It6]; · iexact It6
    isplitl [PBf]; · iexact PBf
    isplitl [If2]; · iexact If2
    isplitl [Cr0t]; · iexact Cr0t
    isplitl [Cr0f]; · iexact Cr0f
    isplitl [P3]; · iexact P3
    isplitl [Tb1t]; · iexact Tb1t
    isplitl [P7]; · iexact P7
    isplitl [Tb1f]; · iexact Tb1f
    isplitl [Cb1]; · iexact Cb1
    isplitl [P2]; · iexact P2
    isplitl [Ts1t]; · iexact Ts1t
    isplitl [Tr1t]; · iexact Tr1t
    isplitl [P6]; · iexact P6
    isplitl [Ts1f]; · iexact Ts1f
    isplitl [Tr1f]; · iexact Tr1f
    isplitl [It5]; · iexact It5
    isplitl [If3]; · iexact If3
    isplitl [Cr1t]; · iexact Cr1t
    isplitl [Cr1f]; · iexact Cr1f
    isplitl [Tb2t]; · iexact Tb2t
    isplitl [Tb2f]; · iexact Tb2f
    isplitl [Cb2]; · iexact Cb2
    isplitl [Ts2t]; · iexact Ts2t
    isplitl [Tr2t]; · iexact Tr2t
    isplitl [Ts2f]; · iexact Ts2f
    isplitl [Tr2f]; · iexact Tr2f
    isplitl [It4]; · iexact It4
    isplitl [If4]; · iexact If4
    isplitl [Cr2t]; · iexact Cr2t
    isplitl [Cr2f]; · iexact Cr2f
    isplitl [GB]; · iexact GB
    isplitl [Ot0]; · iexact Ot0
    isplitl [Z12]; · iexact Z12
    isplitl [Of0]; · iexact Of0
    isplitl [Tb3t]; · iexact Tb3t
    isplitl [Tb3f]; · iexact Tb3f
    isplitl [Cb3]; · iexact Cb3
    isplitl [Ts3t]; · iexact Ts3t
    isplitl [Tr3t]; · iexact Tr3t
    isplitl [Ts3f]; · iexact Ts3f
    isplitl [Tr3f]; · iexact Tr3f
    isplitl [Cr3t]; · iexact Cr3t
    isplitl [Cr3f]; · iexact Cr3f
    isplitl [Ot1]; · iexact Ot1
    isplitl [Of1]; · iexact Of1
    isplitl [Tb4t]; · iexact Tb4t
    isplitl [Tb4f]; · iexact Tb4f
    isplitl [Cb4]; · iexact Cb4
    isplitl [Ts4t]; · iexact Ts4t
    isplitl [Tr4t]; · iexact Tr4t
    isplitl [Ts4f]; · iexact Ts4f
    isplitl [Tr4f]; · iexact Tr4f
    isplitl [Cr4t]; · iexact Cr4t
    isplitl [Cr4f]; · iexact Cr4f
    isplitl [Ot2]; · iexact Ot2
    isplitl [Of2]; · iexact Of2
    isplitl [Tb5t]; · iexact Tb5t
    isplitl [Tb5f]; · iexact Tb5f
    isplitl [Cb5]; · iexact Cb5
    isplitl [Ts5t]; · iexact Ts5t
    isplitl [Tr5t]; · iexact Tr5t
    isplitl [Ts5f]; · iexact Ts5f
    isplitl [Tr5f]; · iexact Tr5f
    isplitl [Cr5t]; · iexact Cr5t
    isplitl [Cr5f]; · iexact Cr5f
    isplitl [Ot3]; · iexact Ot3
    iexact Of3
  iintro H
  iapply (body_end m c)
  isplitr; · iexact HR
  isplitl [HK]; · iexact HK
  iexact H

end Body

theorem owns_gb (c : Dev nD) (d) : (owns (Ix := ℕ) (Name := ℕ) (U := UU) (Lvl := ℕ) (c : Thread nD τ) gbuf fullShare ((dats m ρ 0 c).before (0 : Fin 1) t0_0 d) : sProp 𝕄) = gb m c := by
  unfold Pipeline.Dat.before; rw [if_pos (show (cfg0.win (0 : Fin 1)).fetch t0_0 = true from rfl)]; rfl

def obPre (c : Dev nD) : sProp 𝕄 :=
  iprop(Φ₀ m c ∗ (dats m ρ 0 c).owesAt 0 t0_0.castSucc ∗ (∃ d, owns (c : Thread nD τ) gbuf fullShare ((dats m ρ 0 c).before (0 : Fin 1) t0_0 d)))
def obPost (c : Dev nD) : sProp 𝕄 := iprop(Φ₁ m c ∗ (dats m ρ 0 c).owesAt 0 t0_0.succ ∗ gb m c)

theorem ob_pre (c : Dev nD) : obPre m ρ c ⊢ bodyPre m c := by
  unfold obPre bodyPre
  iintro ⟨H, Ho, ⟨%d, Hg⟩⟩
  ihave Hg := (Entails.of_eq (owns_gb m ρ c d)) $$ Hg
  isplitl [H]; · iexact H
  isplitl [Ho]
  · unfold Pipeline.Dat.owesAt Pipeline.owesWithin Ow
    icases Ho with ⟨%W, -, Ho⟩
    iexists W; iexact Ho
  iexact Hg

theorem ob_post (c : Dev nD) : bodyPost m c ⊢ obPost m ρ c := by
  unfold obPost bodyPost
  iintro ⟨H, Ho, Hg⟩
  isplitl [H]; · iexact H
  isplitl [Ho]
  · unfold Pipeline.Dat.owesAt Pipeline.owesWithin Ow
    icases Ho with ⟨%W, Ho⟩
    iexists W
    isplitr; · ipureintro; exact fun _ _ => Or.inl trivial
    iexact Ho
  iexact Hg

set_option maxRecDepth 16000 in
/-- The obligation of the kernel's body at its one grid point. -/
theorem body_obligation (c : Dev nD) : Pipeline.BodyObligation (dats m ρ 0 c) (defs₀ (F := F)) 𝒱₀ 0 Set.univ := fun t => by
  rw [fin_N0 t]
  rw [bigSep_W0, bigSep_W0]
  show obPre m ρ c ⊢ wpc c (cc0_body (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) (fun _ => obPost m ρ c)
  exact (ob_pre m ρ c).trans ((sound_body m c).trans (wp_mono frame (wpE (defs₀ (F := F)) 𝒱₀ (c : Thread nD τ) none) Set.univ fun _ => ob_post m ρ c))

/-! ## The launch -/

theorem ownSemFacts : Pipeline.OwnSemFacts cfg0.spec osem := by decide

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => rem d 6) c ∗ prngReg c (ρ c) ∗ G' m c)
      ⊢ (|={Set.univ}=> iprop(start m c ∗ emp) : sProp 𝕄) := by
  rw [Pipeline.unscopedRestP_none, unscopedRest0_eq]
  unfold G' start kept recs₀
  iintro ⟨⟨H0, H1, H2⟩, #Hlev, Hcr, -, ⟨#HI, #HR⟩, HP, HT, HZ⟩
  ihave Hc := (creds c 6) $$ Hcr
  ihave H0 := (pointsTo_share (PosShare.mem_left_op_right fullShare)).1 $$ H0
  icases H0 with ⟨H0, H0'⟩
  ihave H1 := (pointsTo_share (PosShare.mem_left_op_right fullShare)).1 $$ H1
  icases H1 with ⟨H1, H1'⟩
  ihave HI' := (whole_in m c) $$ H0'
  ihave HR' := (whole_res m c) $$ H1'
  ihave HO := (whole_out c _) $$ H2
  imodintro
  isplitl
  · isplitr
    · unfold recs
      isplitr; · iexact HI
      isplitr; · iexact HR
      iexact Hlev
    isplitl [HP]; · iexact HP
    isplitl [HT]; · iexact HT
    isplitl [HZ]; · iexact HZ
    isplitl [Hc]; · iexact Hc
    isplitl [H0 H1]
    · isplitl [H0]; · iexact H0
      iexact H1
    isplitl [HI']; · iexact HI'
    isplitl [HR']; · iexact HR'
    iexact HO
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop(fine m c ∗ Pipeline.ownSems0 osem c ∗ Pipeline.scopedRest cfg0.spec c) := by
  rw [show (dats m ρ 0 c).Φ (Fin.last cfg0.N) = Φ₁ m c from rfl]
  exact Entails.refl _

/-- The staging semaphore's waits come before everything owed. -/
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (by decide) (n := 2 * (6 - 6) + 1) (by fin_cases w; fin_cases s; exact Nat.lt_of_le_of_lt (Nat.le_of_eq (show _ = 0 from rfl)) (by decide)) (above_rem c 6 (le_refl 6))
    · exact mayWait c _ 0 (by decide) (n := 2 * (6 - 0) + 1) (by fin_cases w; fin_cases s; exact Nat.lt_of_le_of_lt (Nat.le_of_eq (show _ = 0 from rfl)) (by decide)) (above_rem c 0 (Nat.zero_le 6))

/-! ## The run -/

/-- What the certificate reads of device `c`'s final memory. -/
def QY (c : Dev nD) (s : MemSt nD τ sig (Elt F)) : Prop :=
  (s.mem ((c : Thread nD τ).loc main_v1) = outV m ∧ s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c : Thread nD τ), sm) = 0

theorem fine_read (c : Dev nD) (s' : Phys nD τ sig (Elt F)) : iprop(fine m c ∗ emp ∗ SI s') ⊢ (|={Set.univ}=> iprop(⌜QY m c s'.mem⌝ ∗ SI s') : sProp 𝕄) := by
  unfold fine kept
  iintro ⟨⟨⟨H0, H1⟩, H2, Hu⟩, -, HSI⟩
  ihave H := (persistent_entails_right (SI_pointsTo_agree (st := s') (ℓ := (c : Thread nD τ).loc main_arg0) (I := Finset.univ) (q := fullShare.left)
    (f := m ((c : Thread nD τ).loc main_arg0)))) $$ [HSI H0]
  · isplitl [HSI] <;> iassumption
  icases H with ⟨%h0, HSI, -⟩
  ihave H := (persistent_entails_right (SI_pointsTo_agree (st := s') (ℓ := (c : Thread nD τ).loc main_arg1) (I := Finset.univ) (q := fullShare.left)
    (f := m ((c : Thread nD τ).loc main_arg1)))) $$ [HSI H1]
  · isplitl [HSI] <;> iassumption
  icases H with ⟨%h1, HSI, -⟩
  ihave H := (persistent_entails_right (SI_pointsTo_agree (st := s') (ℓ := (c : Thread nD τ).loc main_v1) (I := Finset.univ) (q := fullShare)
    (f := outV m))) $$ [HSI H2]
  · isplitl [HSI] <;> iassumption
  icases H with ⟨%h2, HSI, -⟩
  imod (Pipeline.unscopedSems0_read (X := unscopedSems0 c) (c := c) fupd_intro s') $$ [Hu HSI] with ⟨%h3, HSI⟩
  · isplitl [Hu] <;> iassumption
  imodintro
  isplitr
  · ipureintro
    exact ⟨⟨funext fun i => h2 i (Finset.mem_univ i), funext fun i => h0 i (Finset.mem_univ i), funext fun i => h1 i (Finset.mem_univ i)⟩, h3⟩
  iexact HSI

/-- What every final state satisfies: on each device the result, and the operands as they were. -/
def QC : PUnit × MemSt nD τ sig (Elt F) → Prop := fun r =>
  ∀ c : Dev nD, r.2.mem ((c : Thread nD τ).loc main_v1) = outV m ∧ r.2.mem ((c : Thread nD τ).loc main_arg0) = m ((c : Thread nD τ).loc main_arg0)
    ∧ r.2.mem ((c : Thread nD τ).loc main_arg1) = m ((c : Thread nD τ).loc main_arg1) ∧ r.2.mem ((c : Thread nD τ).loc main_arg2) = m ((c : Thread nD τ).loc main_arg2)

/-- From any memory at rest, every weakly fair execution of the program on the four devices terminates; every final state has the
    normalized sum in each device's result, the operands unchanged and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w; exact Nat.succ_pos _) (harr := arr_whole0) (hstage := stage_whole0) (hshare := share_eq m ρ)
    (hdistinct := winFacts0.arr_inj)
    (O₀ := fun d => rem d 6) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fine m) (Z := fun _ => iprop(emp))
    (hX := start_intro m ρ) (hin := phi0_intro m ρ) (hout := phi1_exit m ρ)
    (QY := QY m) (hY := fine_read m)
    (hQ := fun s h hs => ⟨fun c => ⟨(h c).2.2.1.1, (h c).2.2.1.2.1, (h c).2.2.1.2.2, ((h c).1 (0 : Fin 1)).trans ((dats m ρ 0 c).arrAt_in (0 : Fin 1) rfl _)⟩,
      sem_eq_zero hs fun c => (h c).2.2.2⟩)

end Cert.KernelIdeal.Ring

end
-- ==== Proof.Frames.lean ====
/-
# The kernel as printed runs as its idealization does

The kernel and its idealization are one program printed twice: the same shapes, the same references, the same body. The
run of the idealization (`Cert.KernelIdeal.Ring.run_main`) is proved for any float values, so it says of the printed kernel, at
the float values of the machine, all that it says of the idealization. This module says that the two body tables are one
(`defs_eq`), and concludes that both programs terminate with their operands unchanged and every semaphore at zero.
-/
module

public import proofs.«01_k».proof.Defs
public import proofs.«01_k».proof.Proof.Run
public import proofs.«01_k».proof.Proof.Gen.Kernel

@[expose] public section

noncomputable section

namespace Cert.Proof

open Idealize.ShloMosaic Idealize.SL.Sem

variable {F : FTy → Type} [FloatOps F]

/-- The kernel bodies of the two programs are one. -/
theorem defs₀_eq : (Cert.Kernel.defs₀ (F := F) : Defs Cert.KernelIdeal.nD Cert.KernelIdeal.τ Cert.KernelIdeal.sig (Elt F) Cert.KernelIdeal.Λ₀)
    = Cert.KernelIdeal.defs₀ (F := F) := by
  unfold Cert.Kernel.defs₀ Cert.KernelIdeal.defs₀
  refine congrArg Defs.onTc (funext fun ℓ => funext fun a => ?_)
  fin_cases ℓ
  rfl

/-- So are the tables that `@main` runs on. -/
theorem defs_eq : (Cert.Kernel.defs (F := F) : Defs Cert.KernelIdeal.nD Cert.KernelIdeal.τ Cert.KernelIdeal.sig (Elt F)
      (Pipeline.Sig Cert.KernelIdeal.Λ₀ (Fin 1) fun p => (Cert.KernelIdeal.pcfgs (F := F) p).Adm))
    = Cert.KernelIdeal.defs (F := F) :=
  congrArg (Pipeline.defs Cert.KernelIdeal.pcfgs) defs₀_eq

/-- The idealization terminates, its operands unchanged, every semaphore at zero. -/
theorem run_KernelIdeal : Cert.quiescent_KernelIdeal (hKernelIdeal := Cert.KernelIdeal.Gen.facts) := fun m g _ =>
  (θ_run _ _ _).mono (fun _ h => ⟨fun c => (h.1 c).2, h.2⟩) (Cert.KernelIdeal.Ring.run_main m g)

/-- The kernel terminates, its operands unchanged, every semaphore at zero. -/
theorem run_Kernel : Cert.quiescent_Kernel (hKernel := Cert.Kernel.Gen.facts) := fun m g _ => by
  have h := Cert.KernelIdeal.Ring.run_main (F := Bits) m g
  rw [← defs_eq] at h
  exact (θ_run (τ := Cert.KernelIdeal.τ) _ _ _).mono (fun _ h => ⟨fun c => (h.1 c).2, h.2⟩) h

end Cert.Proof

end
-- ==== Proof.Value.lean ====
/-
# One element of the result, as mathematics

Over the extended reals, with exact operations: a row is divided by the root of the mean of its squares plus a small
constant, and scaled (`nrm`). Both the kernel's block arithmetic (`norm_apply`) and the reference (`refOut_apply`, in the module on the
reference) are this function of a row.
-/
module

public import proofs.«01_k».proof.Proof.Common
public import Idealize.ShloMosaic.PureOps.Ideal.Laws
public import Idealize.ShloMosaic.Lib.ValueIdx
public import Idealize.ShloMosaic.Lib.IdealHost
public import Idealize.ShloMosaic.Lib.Pipeline.Value
public import Idealize.ShloMosaic.Lib.ValueLayoutCasts

@[expose] public section

noncomputable section

namespace Cert.Proof

open Idealize.ShloMosaic Idealize.ShloMosaic.ValueIdx
open scoped BigOperators

/-- Entry `l` of the row `y` divided by its root mean square (2048 entries, a small constant under the root), times entry `l` of `g`. -/
def nrm (y g : Fin 2048 → EReal) (l : Fin 2048) : EReal :=
  Ideal.div (y l) (Ideal.sqrt (Ideal.div (∑ k, y k * y k) (Ideal.ofBits .f32 0x45000000#32) + Ideal.ofBits .f32 0x358637BD#32)) * g l

end Cert.Proof

namespace Cert.KernelIdeal.Ring

open Cert.KernelIdeal Cert.KernelIdeal.Gen Cert.Proof
open Idealize.ShloMosaic Idealize.ShloMosaic.ValueIdx
open scoped BigOperators

/-- A column laid along the 2048 lanes reads its entry of the row. -/
theorem column_apply {α : Type} (v : S256x1.Idx → α) (i : S256x2048.Idx) :
    broadcastTo S256x2048 v broadcasts_S256x1_S256x2048 i = v (ix2 (i 0 : Fin 256) (0 : Fin 1)) :=
  broadcastTo_apply v _ i _ (by
    intro a
    match a with
    | ⟨0, _⟩ => rfl
    | ⟨1, _⟩ => rfl)

/-- A row laid down the 256 rows reads its entry of the lane. -/
theorem row_apply {α : Type} (v : S2048.Idx → α) (i : S256x2048.Idx) :
    broadcastTo S256x2048 (shapeCast S1x2048 (shapeCast S2048 v shapeCasts_S2048_S2048) shapeCasts_S2048_S1x2048) broadcasts_S1x2048_S256x2048 i
      = v (ix1 (i 1 : Fin 2048)) :=
  (broadcastTo_apply _ _ i (ix2 (0 : Fin 1) (i 1 : Fin 2048)) (by
    intro a
    match a with
    | ⟨0, _⟩ => rfl
    | ⟨1, _⟩ => rfl)).trans
  ((shapeCast_a_1a_apply _ shapeCasts_S2048_S1x2048 (0 : Fin 1) (i 1 : Fin 2048)).trans (congrFun (shapeCast_self v _) _))

/-- The sum of a block's row, in its column. -/
theorem rowsum_apply (v : FVec Ideal S256x2048 .f32) (p : Fin 256) :
    shapeCast S256x1 (multiReduction .add [1] S256 v 0x00000000#32 reduces_S256x2048_S256 (.inl rfl) rfl) shapeCasts_S256_S256x1 (ix2 p (0 : Fin 1))
      = ∑ k : Fin 2048, v (ix2 p k) :=
  (shapeCast_a_a1_apply _ shapeCasts_S256_S256x1 p (0 : Fin 1)).trans
    ((Ideal.multiReduction_add_single v _ reduces_S256x2048_S256 _ rfl (ix1 p)).trans
      (Finset.sum_congr rfl fun k _ => congrArg v (funext fun b => match b with | ⟨0, _⟩ => rfl | ⟨1, _⟩ => rfl)))

/-- One element of the kernel's block arithmetic: the row of the sum of block and residual, normalized. -/
theorem norm_apply (a r : Blk Ideal) (g : FVec Ideal S2048 .f32) (i : S256x2048.Idx) :
    norm a r g i = nrm (fun l => a (ix2 (i 0 : Fin 256) l) + r (ix2 (i 0 : Fin 256) l)) (fun l => g (ix1 l)) (i 1 : Fin 2048) := by
  unfold norm k0_pay8
  simp only [shapeCast_shapeCast]
  rw [mulf_apply, divf_apply, column_apply, row_apply]
  refine (congrArg (fun z => Ideal.div (a i + r i) (Ideal.sqrt (Ideal.div z (Ideal.ofBits .f32 0x45000000#32) + Ideal.ofBits .f32 0x358637BD#32)) * g (ix1 (i 1 : Fin 2048)))
    (rowsum_apply (mulf (addf a r) (addf a r)) (i 0 : Fin 256))).trans ?_
  have hi : i = ix2 (i 0 : Fin 256) (i 1 : Fin 2048) := funext fun b => match b with | ⟨0, _⟩ => rfl | ⟨1, _⟩ => rfl
  rw [hi]
  rfl

end Cert.KernelIdeal.Ring

end
-- ==== Proof.Ref.lean ====
/-
# The reference: its run and its result

The reference is straight-line code on one device. Its run ends with `refOut` of the operands in the result and the operands
unchanged (`run_main`); `refOut_apply` reads one element of it.
-/
module

public import proofs.«01_k».proof.Proof.Value
public import Idealize.ShloMosaic.Lib.StableHlo.Run
public import proofs.«01_k».proof.Proof.Gen.ReferenceIdeal

@[expose] public section

noncomputable section

namespace Cert.ReferenceIdeal.Plain

open Cert.ReferenceIdeal Cert.ReferenceIdeal.Gen Cert.Proof
open Idealize.ShloMosaic Idealize.ShloMosaic.TcCoe Idealize.ShloMosaic.StableHlo Idealize.SL.Sem Idealize.ShloMosaic.ValueIdx
open scoped BigOperators

variable {F : FTy → Type} [FloatOps F]

/-- The sum over the four devices, plus the residual. -/
def total (x : FVec F S4x2048x2048 .f32) (y : FVec F S2048x2048 .f32) : FVec F S2048x2048 .f32 :=
  addf (Host.reduceAdd x (constant S_ .f32 0x00000000#32) reducesTo_S4x2048x2048_S2048x2048_d0 h_S_) y

/-- The root mean square of each row. -/
def rms (y : FVec F S2048x2048 .f32) : FVec F S2048x1 .f32 :=
  Host.sqrt (addf
    (Host.divf (broadcastInDim S2048x1 ![0] bcast_S2048_S2048x1_0
        (Host.reduceAdd (mulf y y) (constant S_ .f32 0x00000000#32) reducesTo_S2048x2048_S2048_d1 h_S_))
      (broadcastInDim S2048x1 ![] bcast_S_S2048x1 (constant S_ .f32 0x45000000#32)))
    (broadcastInDim S2048x1 ![] bcast_S_S2048x1 (constant S_ .f32 0x358637BD#32)))

/-- The reference's result from its operands. -/
def refOut (x : FVec F S4x2048x2048 .f32) (y : FVec F S2048x2048 .f32) (g : FVec F S2048 .f32) : FVec F S2048x2048 .f32 :=
  mulf (Host.divf (total x y) (broadcastInDim S2048x2048 ![0, 1] bcast_S2048x1_S2048x2048_0_1 (rms (total x y))))
    (broadcastInDim S2048x2048 ![0, 1] bcast_S1x2048_S2048x2048_0_1 (broadcastInDim S1x2048 ![1] bcast_S2048_S1x2048_1 g))

/-- The reference's operations, in order. -/
abbrev ops : List (HloOp τ sig (Elt F)) :=
  [ nullary main_cst (constant S_ .f32 0x00000000#32),
    binary main_arg0 main_cst main_v0 (fun x v => Host.reduceAdd x v reducesTo_S4x2048x2048_S2048x2048_d0 h_S_),
    binary main_v0 main_arg1 main_v1 addf,
    binary main_v1 main_v1 main_v2 mulf,
    nullary main_cst_0 (constant S_ .f32 0x00000000#32),
    binary main_v2 main_cst_0 main_v3 (fun x v => Host.reduceAdd x v reducesTo_S2048x2048_S2048_d1 h_S_),
    unary main_v3 main_v4 (broadcastInDim S2048x1 ![0] bcast_S2048_S2048x1_0),
    nullary main_cst_1 (constant S_ .f32 0x45000000#32),
    unary main_cst_1 main_v5 (broadcastInDim S2048x1 ![] bcast_S_S2048x1),
    binary main_v4 main_v5 main_v6 Host.divf,
    nullary main_cst_2 (constant S_ .f32 0x358637BD#32),
    unary main_cst_2 main_v7 (broadcastInDim S2048x1 ![] bcast_S_S2048x1),
    binary main_v6 main_v7 main_v8 addf,
    unary main_v8 main_v9 Host.sqrt,
    unary main_v9 main_v10 (broadcastInDim S2048x2048 ![0, 1] bcast_S2048x1_S2048x2048_0_1),
    binary main_v1 main_v10 main_v11 Host.divf,
    unary main_arg2 main_v12 (broadcastInDim S1x2048 ![1] bcast_S2048_S1x2048_1),
    unary main_v12 main_v13 (broadcastInDim S2048x2048 ![0, 1] bcast_S1x2048_S2048x2048_0_1),
    binary main_v11 main_v13 main_v14 mulf ]

/-- The program is that straight line. -/
theorem main_eq (c : Dev nD) : main (F := F) c = seq ops := rfl

/-- Run through the operations, the result's buffer holds `refOut` of the operands; -/
theorem out_eq (V : Valuation τ sig (Elt F)) : after ops V (main_v14 : DevRef τ sig)
    = refOut (V (main_arg0 : DevRef τ sig)) (V (main_arg1 : DevRef τ sig)) (V (main_arg2 : DevRef τ sig)) := by
  after_results
  rfl

/-- no operation writes an operand. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches this core's references only. -/
theorem ops_sub : (ops : List (HloOp τ sig (Elt F))).Forall fun op => op.bufs ⊆ tcRefs τ sig :=
  ⟨nullary_bufs_sub .., binary_bufs_sub .., binary_bufs_sub .., binary_bufs_sub .., nullary_bufs_sub .., binary_bufs_sub .., unary_bufs_sub ..,
    nullary_bufs_sub .., unary_bufs_sub .., binary_bufs_sub .., nullary_bufs_sub .., unary_bufs_sub .., binary_bufs_sub .., unary_bufs_sub ..,
    unary_bufs_sub .., binary_bufs_sub .., unary_bufs_sub .., unary_bufs_sub .., binary_bufs_sub ..⟩

/-- From any memory at rest every execution of the reference terminates, with `refOut` of the operands in the result and the
    operands unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v14)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v14).trans (out_eq _), (h c main_arg0).trans (arg0_eq _), (h c main_arg1).trans (arg1_eq _),
      (h c main_arg2).trans (arg2_eq _)⟩)
    (run_seq scopedRefs_eq scopedSems_eq defs main (fun _ => ops) main_eq (fun _ => ops_sub) m ρ)

/-- One element of the sum over the four devices plus the residual. -/
theorem total_apply (x : FVec Ideal S4x2048x2048 .f32) (y : FVec Ideal S2048x2048 .f32) (p q : Fin 2048) :
    total x y (ix2 p q) = (∑ k : Fin 4, x (ix3 k p q)) + y (ix2 p q) := by
  refine congrArg (· + y (ix2 p q)) ?_
  refine (Ideal.hostReduceAdd_single reducesTo_S4x2048x2048_S2048x2048_d0 (by decide) x _ (ix2 p q)).trans ?_
  refine (congrArg (· + _) Ideal.ofBits_zero_f32).trans ((zero_add _).trans ?_)
  exact Finset.sum_congr rfl fun k _ => congrArg x (funext fun b => match b with | ⟨0, _⟩ => rfl | ⟨1, _⟩ => rfl | ⟨2, _⟩ => rfl)

/-- The sum of a row's squares. -/
theorem squares_apply (y : FVec Ideal S2048x2048 .f32) (p : Fin 2048) :
    Host.reduceAdd (mulf y y) (constant S_ .f32 0x00000000#32) reducesTo_S2048x2048_S2048_d1 h_S_ (ix1 p) = ∑ k : Fin 2048, y (ix2 p k) * y (ix2 p k) := by
  refine (Ideal.hostReduceAdd_single reducesTo_S2048x2048_S2048_d1 (by decide) (mulf y y) _ (ix1 p)).trans ?_
  refine (congrArg (· + _) Ideal.ofBits_zero_f32).trans ((zero_add _).trans ?_)
  exact Finset.sum_congr rfl fun k _ => congrArg (mulf y y) (funext fun b => match b with | ⟨0, _⟩ => rfl | ⟨1, _⟩ => rfl)

/-- A vector stood up as a column reads its entry. -/
theorem column_apply {α : Type} (v : S2048.Idx → α) (p : Fin 2048) :
    broadcastInDim S2048x1 ![0] bcast_S2048_S2048x1_0 v (ix2 p (0 : Fin 1)) = v (ix1 p) :=
  broadcastInDim_apply _ _ _ _ _ (by
    intro a
    match a with
    | ⟨0, _⟩ =>
      show p.val = if (2048 : ℕ) = 1 then 0 else p.val
      rw [if_neg (by decide)])

/-- The root mean square of a row. -/
theorem rms_apply (y : FVec Ideal S2048x2048 .f32) (p : Fin 2048) :
    rms y (ix2 p (0 : Fin 1)) = Ideal.sqrt (Ideal.div (∑ k : Fin 2048, y (ix2 p k) * y (ix2 p k)) (Ideal.ofBits .f32 0x45000000#32)
      + Ideal.ofBits .f32 0x358637BD#32) := by
  have hs : broadcastInDim S2048x1 ![0] bcast_S2048_S2048x1_0
      (Host.reduceAdd (mulf y y) (constant S_ .f32 0x00000000#32) reducesTo_S2048x2048_S2048_d1 h_S_) (ix2 p (0 : Fin 1))
      = ∑ k : Fin 2048, y (ix2 p k) * y (ix2 p k) :=
    (column_apply _ p).trans (squares_apply y p)
  unfold rms
  refine congrArg Ideal.sqrt ?_
  rw [addf_apply, hostDivf_apply, hs, broadcastInDim_scalar_apply, broadcastInDim_scalar_apply, constant_apply, constant_apply]

/-- One element of the reference's result: the row of the sum over the devices plus the residual, normalized. -/
theorem refOut_apply (x : FVec Ideal S4x2048x2048 .f32) (y : FVec Ideal S2048x2048 .f32) (g : FVec Ideal S2048 .f32) (p q : Fin 2048) :
    refOut x y g (ix2 p q) = nrm (fun l => (∑ k : Fin 4, x (ix3 k p l)) + y (ix2 p l)) (fun l => g (ix1 l)) q := by
  have hr : broadcastInDim S2048x2048 ![0, 1] bcast_S2048x1_S2048x2048_0_1 (rms (total x y)) (ix2 p q) = rms (total x y) (ix2 p (0 : Fin 1)) :=
    broadcastInDim_apply _ _ _ (ix2 p q) (ix2 p (0 : Fin 1)) (by
      intro a
      match a with
      | ⟨0, _⟩ => rfl
      | ⟨1, _⟩ => rfl)
  have hg : broadcastInDim S2048x2048 ![0, 1] bcast_S1x2048_S2048x2048_0_1 (broadcastInDim S1x2048 ![1] bcast_S2048_S1x2048_1 g) (ix2 p q) = g (ix1 q) :=
    (broadcastInDim_apply _ _ _ (ix2 p q) (ix2 (0 : Fin 1) q) (by
      intro a
      match a with
      | ⟨0, _⟩ => rfl
      | ⟨1, _⟩ => rfl)).trans
    (broadcastInDim_apply _ _ _ (ix2 (0 : Fin 1) q) (ix1 q) (by
      intro a
      match a with
      | ⟨0, _⟩ => rfl))
  refine (mulf_apply _ _ _).trans ?_
  rw [hg]
  refine (congrArg (· * g (ix1 q)) (hostDivf_apply _ _ _)).trans ?_
  rw [hr, rms_apply]
  simp only [total_apply]
  rfl

end Cert.ReferenceIdeal.Plain

end
-- ==== Proof.Equation.lean ====
/-
# The kernel's result is the reference's

Where the four devices hold the blocks of the reference's first operand, and the reference's other two operands whole, the
kernel's result (`outV`) is the reference's (`outV_eq`), over the extended reals. The kernel sums a chunk around the ring,
starting from the device after next and ending at its own; the reference sums it in the order of the devices. Addition of
extended reals commutes and associates, so the two sums agree (`sum_ring`).
-/
module

public import proofs.«01_k».proof.Proof.Mem
public import proofs.«01_k».proof.Proof.Ref
public import Idealize.ShloMosaic.Lib.Layout

@[expose] public section

noncomputable section

namespace Cert.KernelIdeal.Ring

open Cert.KernelIdeal Cert.KernelIdeal.Gen Cert.Proof
open Idealize.ShloMosaic Idealize.ShloMosaic.TcCoe Idealize.ShloMosaic.ValueIdx
open scoped BigOperators

/-- Row `p` of the half `d` of chunk `j`, among all rows. -/
def rowOf (d : Bool) (j : Dev nD) (p : Fin 256) : Fin 2048 :=
  ⟨row d j + p.val, by have := p.isLt; have hj : j.val < 4 := j.isLt; unfold row; split <;> omega⟩

section Reads

variable {F : FTy → Type} [FloatOps F]
variable (m : (ℓ : Loc nD τ sig) → Buf (Elt F) ℓ)

/-- An element of a half chunk of `partial`. -/
theorem part_apply (d : Bool) (c j : Dev nD) (p : Fin 256) (q : Fin 2048) :
    part m d c j (ix2 p q) = m ((c : Thread nD τ).loc main_arg0) (ix3 (0 : Fin 1) (rowOf d j p) q) := by
  show m ((c : Thread nD τ).loc main_arg0) ((irect d j).emb (Shape.reshapeEquiv _ (ix2 p q))) = _
  rw [reshapeEquiv_ix2_1ab]
  refine congrArg (m ((c : Thread nD τ).loc main_arg0)) (funext fun b => Fin.ext ?_)
  rw [Rect.emb_apply]
  match b with
  | ⟨0, _⟩ => rfl
  | ⟨1, _⟩ => show row d j + 1 * p.val = row d j + p.val; omega
  | ⟨2, _⟩ => show 0 + 1 * q.val = q.val; omega

/-- An element of a device's half chunk of `resid`. -/
theorem rhalf_apply (d : Bool) (c : Dev nD) (p : Fin 256) (q : Fin 2048) :
    rhalf m d c (ix2 p q) = m ((c : Thread nD τ).loc main_arg1) (ix2 (rowOf d c p) q) := by
  show m ((c : Thread nD τ).loc main_arg1) ((rrect c).emb ((hrect d).emb (ix2 p q))) = _
  refine congrArg (m ((c : Thread nD τ).loc main_arg1)) (funext fun b => Fin.ext ?_)
  rw [Rect.emb_apply, Rect.emb_apply]
  match b with
  | ⟨0, _⟩ => show 512 * c.val + 1 * ((if d then 0 else 256) + 1 * p.val) = 512 * c.val + (if d then 0 else 256) + p.val; omega
  | ⟨1, _⟩ => show 0 + 1 * (0 + 1 * q.val) = q.val; omega

/-- An element of `gamma`. -/
theorem gam_apply (c : Dev nD) (q : Fin 2048) : gam m c (ix1 q) = m ((c : Thread nD τ).loc main_arg2) (ix1 q) := by
  refine congrArg (m ((c : Thread nD τ).loc main_arg2)) (funext fun b => Fin.ext ?_)
  match b with
  | ⟨0, _⟩ => show 0 + 1 * q.val = q.val; omega

/-- Three hops back from where direction `d` comes to `c` bring the chunk around: what a device finishes is the sum of its own chunk
    over all four devices. -/
theorem acc_three (d : Bool) (c : Dev nD) : acc m d 3 c
    = addf (addf (addf (part m d (fr d (fr d (fr d c))) c) (part m d (fr d (fr d c)) c)) (part m d (fr d c) c)) (part m d c c) := by
  have e0 : fr d (fr d (fr d (fr d c))) = c := by revert d c; decide
  have e1 : sh (if d then 6 - 0 else 2 + 0) (fr d (fr d c)) = c := by revert d c; decide
  have e2 : sh (if d then 6 - 1 else 2 + 1) (fr d c) = c := by revert d c; decide
  have e3 : sh (if d then 6 - 2 else 2 + 2) c = c := by revert d c; decide
  show addf (addf (addf (part m d (fr d (fr d (fr d c))) (fr d (fr d (fr d (fr d c))))) (part m d (fr d (fr d c)) (sh (if d then 6 - 0 else 2 + 0) (fr d (fr d c)))))
    (part m d (fr d c) (sh (if d then 6 - 1 else 2 + 1) (fr d c)))) (part m d c (sh (if d then 6 - 2 else 2 + 2) c)) = _
  rw [e0, e1, e2, e3]

end Reads

/-- A sum taken around the ring is the sum over the devices. -/
theorem sum_ring (d : Bool) (c : Dev nD) (f : Dev nD → EReal) :
    f (fr d (fr d (fr d c))) + f (fr d (fr d c)) + f (fr d c) + f c = ∑ k : Dev nD, f k := by
  have h : (Finset.univ : Finset (Dev nD)) = {fr d (fr d (fr d c)), fr d (fr d c), fr d c, c} := by revert d c; decide
  have h1 : fr d (fr d (fr d c)) ∉ ({fr d (fr d c), fr d c, c} : Finset (Dev nD)) := by revert d c; decide
  have h2 : fr d (fr d c) ∉ ({fr d c, c} : Finset (Dev nD)) := by revert d c; decide
  have h3 : fr d c ∉ ({c} : Finset (Dev nD)) := by revert d c; decide
  rw [h, Finset.sum_insert h1, Finset.sum_insert h2, Finset.sum_insert h3, Finset.sum_singleton, add_assoc, add_assoc]

variable (m : (ℓ : Loc nD τ sig) → Buf (Elt Ideal) ℓ)
variable (x : FVec Ideal Cert.ReferenceIdeal.S4x2048x2048 .f32) (y : FVec Ideal Cert.ReferenceIdeal.S2048x2048 .f32)
  (g : FVec Ideal Cert.ReferenceIdeal.S2048 .f32)

/-- A device's half chunk of the reference's first operand: that device's rows. -/
theorem part_block (h0 : ∀ c : Dev nD, m ((c : Thread nD τ).loc main_arg0) = Layout.block ⟨3, ![1, 2048, 2048]⟩ ⟨3, ![4, 2048, 2048]⟩ 0 4 c x)
    (d : Bool) (c j : Dev nD) (p : Fin 256) (q : Fin 2048) : part m d c j (ix2 p q) = x (ix3 (c : Fin 4) (rowOf d j p) q) := by
  rw [part_apply, h0, Layout.block_apply]
  refine congrArg x (funext fun b => Fin.ext ?_)
  match b with
  | ⟨0, _⟩ => show c.val * 1 + 0 = c.val; omega
  | ⟨1, _⟩ => rfl
  | ⟨2, _⟩ => rfl

/-- What a device finishes, element by element: the normalized row of the reference's sum. -/
theorem fin_apply (h0 : ∀ c : Dev nD, m ((c : Thread nD τ).loc main_arg0) = Layout.block ⟨3, ![1, 2048, 2048]⟩ ⟨3, ![4, 2048, 2048]⟩ 0 4 c x)
    (h1 : ∀ c : Dev nD, m ((c : Thread nD τ).loc main_arg1) = y) (h2 : ∀ c : Dev nD, m ((c : Thread nD τ).loc main_arg2) = g)
    (d : Bool) (c : Dev nD) (p : Fin 256) (q : Fin 2048) :
    fin m d c (ix2 p q) = nrm (fun l => (∑ k : Fin 4, x (ix3 k (rowOf d c p) l)) + y (ix2 (rowOf d c p) l)) (fun l => g (ix1 l)) q := by
  refine (norm_apply _ _ _ _).trans ?_
  have hy : ∀ l : Fin 2048, acc m d 3 c (ix2 p l) + rhalf m d c (ix2 p l)
      = (∑ k : Fin 4, x (ix3 k (rowOf d c p) l)) + y (ix2 (rowOf d c p) l) := fun l => by
    rw [acc_three, rhalf_apply, h1, addf_apply, addf_apply, addf_apply, part_block m x h0, part_block m x h0, part_block m x h0, part_block m x h0]
    exact congrArg (· + _) (sum_ring d c fun k => x (ix3 k (rowOf d c p) l))
  have hg : ∀ l : Fin 2048, gam m c (ix1 l) = g (ix1 l) := fun l => by rw [gam_apply, h2]
  exact congrArg₂ (fun a b => nrm a b q) (funext hy) (funext hg)

/-- The kernel's result is the reference's. -/
theorem outV_eq (h0 : ∀ c : Dev nD, m ((c : Thread nD τ).loc main_arg0) = Layout.block ⟨3, ![1, 2048, 2048]⟩ ⟨3, ![4, 2048, 2048]⟩ 0 4 c x)
    (h1 : ∀ c : Dev nD, m ((c : Thread nD τ).loc main_arg1) = y) (h2 : ∀ c : Dev nD, m ((c : Thread nD τ).loc main_arg2) = g) :
    outV m = Cert.ReferenceIdeal.Plain.refOut x y g := by
  have key : ∀ p q : Fin 2048, outV m (ix2 p q) = Cert.ReferenceIdeal.Plain.refOut x y g (ix2 p q) := fun p q => by
    have hr : rowOf (decide (p.val % 512 < 256)) ⟨p.val / 512, Nat.div_lt_of_lt_mul p.isLt⟩ ⟨p.val % 256, Nat.mod_lt _ (by decide)⟩ = p := by
      apply Fin.ext
      show 512 * (p.val / 512) + (if decide (p.val % 512 < 256) = true then 0 else 256) + p.val % 256 = p.val
      by_cases h : p.val % 512 < 256
      · rw [if_pos (decide_eq_true h)]; omega
      · rw [if_neg (by simpa using h)]; omega
    have ho : outV m (ix2 p q) = fin m (decide (p.val % 512 < 256)) ⟨p.val / 512, Nat.div_lt_of_lt_mul p.isLt⟩
        (ix2 (⟨p.val % 256, Nat.mod_lt _ (by decide)⟩ : Fin 256) q) := by
      refine congrArg (fin m (decide (p.val % 512 < 256)) ⟨p.val / 512, Nat.div_lt_of_lt_mul p.isLt⟩) (funext fun b => ?_)
      match b with
      | ⟨0, _⟩ => rfl
      | ⟨1, _⟩ => rfl
    rw [ho, fin_apply m x y g h0 h1 h2, hr, Cert.ReferenceIdeal.Plain.refOut_apply]
  funext i
  have hi : i = ix2 (i 0 : Fin 2048) (i 1 : Fin 2048) := funext fun b => match b with | ⟨0, _⟩ => rfl | ⟨1, _⟩ => rfl
  rw [hi]
  exact key _ _

end Cert.KernelIdeal.Ring

end
-- ==== Proof.lean ====
/-
# The claims

The kernel (Kernel), its reading over the extended reals (KernelIdeal) and the reference read likewise (ReferenceIdeal): each runs to
the end, leaves its operands as they were and every semaphore at zero; the reading rewrites no operation; and the kernel's result on
every device is the reference's.
-/
module

public import proofs.«01_k».proof.Defs
public import proofs.«01_k».proof.Proof.Frames
public import proofs.«01_k».proof.Proof.Equation
public import proofs.«01_k».proof.Proof.Ref

@[expose] public section

noncomputable section

namespace Cert.Proof

open Idealize.ShloMosaic Idealize.SL.Sem

/-- The reference terminates, its operands unchanged, every semaphore at zero: it has none. -/
theorem run_ReferenceIdeal : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Plain.run_main m g)

/-- The kernel's result on every device is the reference's. -/
theorem value : Cert.algebraic_KernelIdeal_ReferenceIdeal (hKernelIdeal := Cert.KernelIdeal.Gen.facts)
    (hReferenceIdeal := Cert.ReferenceIdeal.Gen.facts) := fun m g m' g' _ h =>
  ⟨_, (θ_run _ _ _).mono (fun _ hr c => ⟨(hr.1 c).1.trans
        (Cert.KernelIdeal.Ring.outV_eq m _ _ _ (fun c => (h c).1) (fun c => (h c).2.1) (fun c => (h c).2.2)), (hr.1 c).2⟩)
      (Cert.KernelIdeal.Ring.run_main m g),
    (θ_run _ _ _).mono (fun _ hr => hr 0) (Cert.ReferenceIdeal.Plain.run_main m' g')⟩

/-- Every claim. -/
theorem claim : Cert.Claim :=
  ⟨Cert.Kernel.Gen.facts, Cert.KernelIdeal.Gen.facts, Cert.ReferenceIdeal.Gen.facts,
    run_Kernel, run_KernelIdeal, run_ReferenceIdeal, trivial, value⟩

end Cert.Proof

end
